-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S32 : Shape := ⟨1, ![32]⟩
abbrev S_ : Shape := ⟨0, ![]⟩
abbrev S2048x512 : Shape := ⟨2, ![2048, 512]⟩
abbrev S64x512 : Shape := ⟨2, ![64, 512]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S2048x2048, .f32⟩
  | .hbm, ⟨2, _⟩ => ⟨S2048x64, .f32⟩
  | .local _ .vmem, ⟨0, _⟩ => ⟨S64x2048, .f32⟩
  | .local _ .vmem, ⟨1, _⟩ => ⟨S2048x2048, .f32⟩
  | .local _ .vmem, ⟨2, _⟩ => ⟨S2048x64, .f32⟩
  | .local _ .vmem, ⟨3, _⟩ => ⟨S32x64x64, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.addi v2 c1_i32_0
  let c32_i32_1 : BitVec 32 := 32#32
  let v6 : BitVec 32 := Scalar.remsi v5 c32_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v9 : BitVec 32 := Scalar.addi v2 c2_i32
  let c32_i32_4 : BitVec 32 := 32#32
  let v10 : BitVec 32 := Scalar.remsi v9 c32_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 32 := Scalar.addi v2 c3_i32
  let c32_i32_8 : BitVec 32 := 32#32
  let v14 : BitVec 32 := Scalar.remsi v13 c32_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v17 : BitVec 32 := Scalar.addi v2 c4_i32
  let c32_i32_12 : BitVec 32 := 32#32
  let v18 : BitVec 32 := Scalar.remsi v17 c32_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v21 : BitVec 32 := Scalar.addi v2 c5_i32
  let c32_i32_16 : BitVec 32 := 32#32
  let v22 : BitVec 32 := Scalar.remsi v21 c32_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v25 : BitVec 32 := Scalar.addi v2 c6_i32
  let c32_i32_20 : BitVec 32 := 32#32
  let v26 : BitVec 32 := Scalar.remsi v25 c32_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v29 : BitVec 32 := Scalar.addi v2 c7_i32
  let c32_i32_24 : BitVec 32 := 32#32
  let v30 : BitVec 32 := Scalar.remsi v29 c32_i32_24
  let c1_i32_26 : BitVec 32 := 1#32
  let v31 : BitVec 32 := Scalar.muli v30 c1_i32_26
  let v32 : BitVec 32 := Scalar.addi c0_i32_27 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_28 : BitVec 32 := 8#32
  let v33 : BitVec 32 := Scalar.addi v2 c8_i32_28
  let c32_i32_29 : BitVec 32 := 32#32
  let v34 : BitVec 32 := Scalar.remsi v33 c32_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v37 : BitVec 32 := Scalar.addi v2 c9_i32
  let c32_i32_33 : BitVec 32 := 32#32
  let v38 : BitVec 32 := Scalar.remsi v37 c32_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v41 : BitVec 32 := Scalar.addi v2 c10_i32
  let c32_i32_37 : BitVec 32 := 32#32
  let v42 : BitVec 32 := Scalar.remsi v41 c32_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v45 : BitVec 32 := Scalar.addi v2 c11_i32
  let c32_i32_41 : BitVec 32 := 32#32
  let v46 : BitVec 32 := Scalar.remsi v45 c32_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v49 : BitVec 32 := Scalar.addi v2 c12_i32
  let c32_i32_45 : BitVec 32 := 32#32
  let v50 : BitVec 32 := Scalar.remsi v49 c32_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v53 : BitVec 32 := Scalar.addi v2 c13_i32
  let c32_i32_49 : BitVec 32 := 32#32
  let v54 : BitVec 32 := Scalar.remsi v53 c32_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v57 : BitVec 32 := Scalar.addi v2 c14_i32
  let c32_i32_53 : BitVec 32 := 32#32
  let v58 : BitVec 32 := Scalar.remsi v57 c32_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v61 : BitVec 32 := Scalar.addi v2 c15_i32
  let c32_i32_57 : BitVec 32 := 32#32
  let v62 : BitVec 32 := Scalar.remsi v61 c32_i32_57
  let c1_i32_59 : BitVec 32 := 1#32
  let v63 : BitVec 32 := Scalar.muli v62 c1_i32_59
  let v64 : BitVec 32 := Scalar.addi c0_i32_60 v63
  v64.toNat
def k0_dev16 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v65 : BitVec 32 := Scalar.addi v2 c16_i32
  let c32_i32_61 : BitVec 32 := 32#32
  let v66 : BitVec 32 := Scalar.remsi v65 c32_i32_61
  let c1_i32_63 : BitVec 32 := 1#32
  let v67 : BitVec 32 := Scalar.muli v66 c1_i32_63
  let v68 : BitVec 32 := Scalar.addi c0_i32_64 v67
  v68.toNat
def k0_dev17 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v69 : BitVec 32 := Scalar.addi v2 c17_i32
  let c32_i32_65 : BitVec 32 := 32#32
  let v70 : BitVec 32 := Scalar.remsi v69 c32_i32_65
  let c1_i32_67 : BitVec 32 := 1#32
  let v71 : BitVec 32 := Scalar.muli v70 c1_i32_67
  let v72 : BitVec 32 := Scalar.addi c0_i32_68 v71
  v72.toNat
def k0_dev18 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v73 : BitVec 32 := Scalar.addi v2 c18_i32
  let c32_i32_69 : BitVec 32 := 32#32
  let v74 : BitVec 32 := Scalar.remsi v73 c32_i32_69
  let c1_i32_71 : BitVec 32 := 1#32
  let v75 : BitVec 32 := Scalar.muli v74 c1_i32_71
  let v76 : BitVec 32 := Scalar.addi c0_i32_72 v75
  v76.toNat
def k0_dev19 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v77 : BitVec 32 := Scalar.addi v2 c19_i32
  let c32_i32_73 : BitVec 32 := 32#32
  let v78 : BitVec 32 := Scalar.remsi v77 c32_i32_73
  let c1_i32_75 : BitVec 32 := 1#32
  let v79 : BitVec 32 := Scalar.muli v78 c1_i32_75
  let v80 : BitVec 32 := Scalar.addi c0_i32_76 v79
  v80.toNat
def k0_dev20 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v81 : BitVec 32 := Scalar.addi v2 c20_i32
  let c32_i32_77 : BitVec 32 := 32#32
  let v82 : BitVec 32 := Scalar.remsi v81 c32_i32_77
  let c1_i32_79 : BitVec 32 := 1#32
  let v83 : BitVec 32 := Scalar.muli v82 c1_i32_79
  let v84 : BitVec 32 := Scalar.addi c0_i32_80 v83
  v84.toNat
def k0_dev21 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v85 : BitVec 32 := Scalar.addi v2 c21_i32
  let c32_i32_81 : BitVec 32 := 32#32
  let v86 : BitVec 32 := Scalar.remsi v85 c32_i32_81
  let c1_i32_83 : BitVec 32 := 1#32
  let v87 : BitVec 32 := Scalar.muli v86 c1_i32_83
  let v88 : BitVec 32 := Scalar.addi c0_i32_84 v87
  v88.toNat
def k0_dev22 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v89 : BitVec 32 := Scalar.addi v2 c22_i32
  let c32_i32_85 : BitVec 32 := 32#32
  let v90 : BitVec 32 := Scalar.remsi v89 c32_i32_85
  let c1_i32_87 : BitVec 32 := 1#32
  let v91 : BitVec 32 := Scalar.muli v90 c1_i32_87
  let v92 : BitVec 32 := Scalar.addi c0_i32_88 v91
  v92.toNat
def k0_dev23 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v93 : BitVec 32 := Scalar.addi v2 c23_i32
  let c32_i32_89 : BitVec 32 := 32#32
  let v94 : BitVec 32 := Scalar.remsi v93 c32_i32_89
  let c1_i32_91 : BitVec 32 := 1#32
  let v95 : BitVec 32 := Scalar.muli v94 c1_i32_91
  let v96 : BitVec 32 := Scalar.addi c0_i32_92 v95
  v96.toNat
def k0_dev24 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v97 : BitVec 32 := Scalar.addi v2 c24_i32
  let c32_i32_93 : BitVec 32 := 32#32
  let v98 : BitVec 32 := Scalar.remsi v97 c32_i32_93
  let c1_i32_95 : BitVec 32 := 1#32
  let v99 : BitVec 32 := Scalar.muli v98 c1_i32_95
  let v100 : BitVec 32 := Scalar.addi c0_i32_96 v99
  v100.toNat
def k0_dev25 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v101 : BitVec 32 := Scalar.addi v2 c25_i32
  let c32_i32_97 : BitVec 32 := 32#32
  let v102 : BitVec 32 := Scalar.remsi v101 c32_i32_97
  let c1_i32_99 : BitVec 32 := 1#32
  let v103 : BitVec 32 := Scalar.muli v102 c1_i32_99
  let v104 : BitVec 32 := Scalar.addi c0_i32_100 v103
  v104.toNat
def k0_dev26 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v105 : BitVec 32 := Scalar.addi v2 c26_i32
  let c32_i32_101 : BitVec 32 := 32#32
  let v106 : BitVec 32 := Scalar.remsi v105 c32_i32_101
  let c1_i32_103 : BitVec 32 := 1#32
  let v107 : BitVec 32 := Scalar.muli v106 c1_i32_103
  let v108 : BitVec 32 := Scalar.addi c0_i32_104 v107
  v108.toNat
def k0_dev27 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v109 : BitVec 32 := Scalar.addi v2 c27_i32
  let c32_i32_105 : BitVec 32 := 32#32
  let v110 : BitVec 32 := Scalar.remsi v109 c32_i32_105
  let c1_i32_107 : BitVec 32 := 1#32
  let v111 : BitVec 32 := Scalar.muli v110 c1_i32_107
  let v112 : BitVec 32 := Scalar.addi c0_i32_108 v111
  v112.toNat
def k0_dev28 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v113 : BitVec 32 := Scalar.addi v2 c28_i32
  let c32_i32_109 : BitVec 32 := 32#32
  let v114 : BitVec 32 := Scalar.remsi v113 c32_i32_109
  let c1_i32_111 : BitVec 32 := 1#32
  let v115 : BitVec 32 := Scalar.muli v114 c1_i32_111
  let v116 : BitVec 32 := Scalar.addi c0_i32_112 v115
  v116.toNat
def k0_dev29 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v117 : BitVec 32 := Scalar.addi v2 c29_i32
  let c32_i32_113 : BitVec 32 := 32#32
  let v118 : BitVec 32 := Scalar.remsi v117 c32_i32_113
  let c1_i32_115 : BitVec 32 := 1#32
  let v119 : BitVec 32 := Scalar.muli v118 c1_i32_115
  let v120 : BitVec 32 := Scalar.addi c0_i32_116 v119
  v120.toNat
def k0_dev30 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v121 : BitVec 32 := Scalar.addi v2 c30_i32
  let c32_i32_117 : BitVec 32 := 32#32
  let v122 : BitVec 32 := Scalar.remsi v121 c32_i32_117
  let c1_i32_119 : BitVec 32 := 1#32
  let v123 : BitVec 32 := Scalar.muli v122 c1_i32_119
  let v124 : BitVec 32 := Scalar.addi c0_i32_120 v123
  v124.toNat
def k0_dev31 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v125 : BitVec 32 := Scalar.addi v2 c31_i32
  let c32_i32_121 : BitVec 32 := 32#32
  let v126 : BitVec 32 := Scalar.remsi v125 c32_i32_121
  let c1_i32_123 : BitVec 32 := 1#32
  let v127 : BitVec 32 := Scalar.muli v126 c1_i32_123
  let v128 : BitVec 32 := Scalar.addi c0_i32_124 v127
  v128.toNat
def k0_off1 (d0 : Dev nD) (c0_i32_126 : BitVec 32) : Fin 2 → Nat :=
  let c0_128 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v131 : BitVec 32 := Scalar.addi v3 c0_i32_126
  let c4_i32_127 : BitVec 32 := 4#32
  let v132 : BitVec 32 := Scalar.remsi v131 c4_i32_127
  let c512_i32 : BitVec 32 := 512#32
  let v133 : BitVec 32 := Scalar.muli v132 c512_i32
  let v134 : Index := Scalar.indexCast v133
  ![0, v134.toNat]
def k0_off2 (d0 : Dev nD) (c0_i32_126 : BitVec 32) (c0_i32_130 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v131 : BitVec 32 := Scalar.addi v3 c0_i32_126
  let c4_i32_127 : BitVec 32 := 4#32
  let v132 : BitVec 32 := Scalar.remsi v131 c4_i32_127
  let c8_i32_129 : BitVec 32 := 8#32
  let v139 : BitVec 32 := Scalar.muli v132 c8_i32_129
  let v140 : BitVec 32 := Scalar.addi v139 c0_i32_130
  let v141 : Index := Scalar.indexCast v140
  let c0_131 : Index := 0#32
  let c0_132 : Index := 0#32
  ![v141.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_162 : BitVec 32 := 8#32
  let v194 : BitVec 32 := Scalar.muli v132 c8_i32_162
  let c1_i32_163 : BitVec 32 := 1#32
  let v195 : BitVec 32 := Scalar.addi v2 c1_i32_163
  let c0_i32_164 : BitVec 32 := 0#32
  let v196 : BitVec 32 := Scalar.addi v195 c0_i32_164
  let c8_i32_165 : BitVec 32 := 8#32
  let v197 : BitVec 32 := Scalar.remsi v196 c8_i32_165
  let v198 : BitVec 32 := Scalar.addi v194 v197
  let v199 : BitVec 1 := Scalar.cmpi .ne v198 v2
  let v200 : BitVec 32 := Scalar.extui v199
  let c0_i32_166 : BitVec 32 := 0#32
  let v201 : BitVec 1 := Scalar.cmpi .ne v200 c0_i32_166
  v201

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_162 : BitVec 32 := 8#32
  let v194 : BitVec 32 := Scalar.muli v132 c8_i32_162
  let c1_i32_163 : BitVec 32 := 1#32
  let v195 : BitVec 32 := Scalar.addi v2 c1_i32_163
  let c0_i32_164 : BitVec 32 := 0#32
  let v196 : BitVec 32 := Scalar.addi v195 c0_i32_164
  let c8_i32_165 : BitVec 32 := 8#32
  let v197 : BitVec 32 := Scalar.remsi v196 c8_i32_165
  let v198 : BitVec 32 := Scalar.addi v194 v197
  ![v198.toNat]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_162 : BitVec 32 := 8#32
  let v194 : BitVec 32 := Scalar.muli v132 c8_i32_162
  let c1_i32_163 : BitVec 32 := 1#32
  let v195 : BitVec 32 := Scalar.addi v2 c1_i32_163
  let c0_i32_164 : BitVec 32 := 0#32
  let v196 : BitVec 32 := Scalar.addi v195 c0_i32_164
  let c8_i32_165 : BitVec 32 := 8#32
  let v197 : BitVec 32 := Scalar.remsi v196 c8_i32_165
  let v198 : BitVec 32 := Scalar.addi v194 v197
  let c0_i32_905 : BitVec 32 := 0#32
  let c0_i32_906 : BitVec 32 := 0#32
  ![v198.toNat, 0, 0]
def k0_dev32 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_162 : BitVec 32 := 8#32
  let v194 : BitVec 32 := Scalar.muli v132 c8_i32_162
  let c1_i32_163 : BitVec 32 := 1#32
  let v195 : BitVec 32 := Scalar.addi v2 c1_i32_163
  let c0_i32_164 : BitVec 32 := 0#32
  let v196 : BitVec 32 := Scalar.addi v195 c0_i32_164
  let c8_i32_165 : BitVec 32 := 8#32
  let v197 : BitVec 32 := Scalar.remsi v196 c8_i32_165
  let v198 : BitVec 32 := Scalar.addi v194 v197
  let c1_i32_902 : BitVec 32 := 1#32
  let v1204 : BitVec 32 := Scalar.muli v198 c1_i32_902
  let v1205 : BitVec 32 := Scalar.addi c0_i32_903 v1204
  v1205.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_167 : BitVec 32 := 8#32
  let v202 : BitVec 32 := Scalar.muli v132 c8_i32_167
  let c1_i32_168 : BitVec 32 := 1#32
  let v203 : BitVec 32 := Scalar.addi v2 c1_i32_168
  let c1_i32_169 : BitVec 32 := 1#32
  let v204 : BitVec 32 := Scalar.addi v203 c1_i32_169
  let c8_i32_170 : BitVec 32 := 8#32
  let v205 : BitVec 32 := Scalar.remsi v204 c8_i32_170
  let v206 : BitVec 32 := Scalar.addi v202 v205
  let v207 : BitVec 1 := Scalar.cmpi .ne v206 v2
  let v208 : BitVec 32 := Scalar.extui v207
  let c0_i32_171 : BitVec 32 := 0#32
  let v209 : BitVec 1 := Scalar.cmpi .ne v208 c0_i32_171
  v209

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_167 : BitVec 32 := 8#32
  let v202 : BitVec 32 := Scalar.muli v132 c8_i32_167
  let c1_i32_168 : BitVec 32 := 1#32
  let v203 : BitVec 32 := Scalar.addi v2 c1_i32_168
  let c1_i32_169 : BitVec 32 := 1#32
  let v204 : BitVec 32 := Scalar.addi v203 c1_i32_169
  let c8_i32_170 : BitVec 32 := 8#32
  let v205 : BitVec 32 := Scalar.remsi v204 c8_i32_170
  let v206 : BitVec 32 := Scalar.addi v202 v205
  ![v206.toNat]
def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_167 : BitVec 32 := 8#32
  let v202 : BitVec 32 := Scalar.muli v132 c8_i32_167
  let c1_i32_168 : BitVec 32 := 1#32
  let v203 : BitVec 32 := Scalar.addi v2 c1_i32_168
  let c1_i32_169 : BitVec 32 := 1#32
  let v204 : BitVec 32 := Scalar.addi v203 c1_i32_169
  let c8_i32_170 : BitVec 32 := 8#32
  let v205 : BitVec 32 := Scalar.remsi v204 c8_i32_170
  let v206 : BitVec 32 := Scalar.addi v202 v205
  let c0_i32_905 : BitVec 32 := 0#32
  let c0_i32_906 : BitVec 32 := 0#32
  ![v206.toNat, 0, 0]
def k0_dev33 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_167 : BitVec 32 := 8#32
  let v202 : BitVec 32 := Scalar.muli v132 c8_i32_167
  let c1_i32_168 : BitVec 32 := 1#32
  let v203 : BitVec 32 := Scalar.addi v2 c1_i32_168
  let c1_i32_169 : BitVec 32 := 1#32
  let v204 : BitVec 32 := Scalar.addi v203 c1_i32_169
  let c8_i32_170 : BitVec 32 := 8#32
  let v205 : BitVec 32 := Scalar.remsi v204 c8_i32_170
  let v206 : BitVec 32 := Scalar.addi v202 v205
  let c1_i32_902 : BitVec 32 := 1#32
  let v1204 : BitVec 32 := Scalar.muli v206 c1_i32_902
  let v1205 : BitVec 32 := Scalar.addi c0_i32_903 v1204
  v1205.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_172 : BitVec 32 := 8#32
  let v210 : BitVec 32 := Scalar.muli v132 c8_i32_172
  let c1_i32_173 : BitVec 32 := 1#32
  let v211 : BitVec 32 := Scalar.addi v2 c1_i32_173
  let c2_i32_174 : BitVec 32 := 2#32
  let v212 : BitVec 32 := Scalar.addi v211 c2_i32_174
  let c8_i32_175 : BitVec 32 := 8#32
  let v213 : BitVec 32 := Scalar.remsi v212 c8_i32_175
  let v214 : BitVec 32 := Scalar.addi v210 v213
  let v215 : BitVec 1 := Scalar.cmpi .ne v214 v2
  let v216 : BitVec 32 := Scalar.extui v215
  let c0_i32_176 : BitVec 32 := 0#32
  let v217 : BitVec 1 := Scalar.cmpi .ne v216 c0_i32_176
  v217

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_172 : BitVec 32 := 8#32
  let v210 : BitVec 32 := Scalar.muli v132 c8_i32_172
  let c1_i32_173 : BitVec 32 := 1#32
  let v211 : BitVec 32 := Scalar.addi v2 c1_i32_173
  let c2_i32_174 : BitVec 32 := 2#32
  let v212 : BitVec 32 := Scalar.addi v211 c2_i32_174
  let c8_i32_175 : BitVec 32 := 8#32
  let v213 : BitVec 32 := Scalar.remsi v212 c8_i32_175
  let v214 : BitVec 32 := Scalar.addi v210 v213
  ![v214.toNat]
def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off14 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_172 : BitVec 32 := 8#32
  let v210 : BitVec 32 := Scalar.muli v132 c8_i32_172
  let c1_i32_173 : BitVec 32 := 1#32
  let v211 : BitVec 32 := Scalar.addi v2 c1_i32_173
  let c2_i32_174 : BitVec 32 := 2#32
  let v212 : BitVec 32 := Scalar.addi v211 c2_i32_174
  let c8_i32_175 : BitVec 32 := 8#32
  let v213 : BitVec 32 := Scalar.remsi v212 c8_i32_175
  let v214 : BitVec 32 := Scalar.addi v210 v213
  let c0_i32_905 : BitVec 32 := 0#32
  let c0_i32_906 : BitVec 32 := 0#32
  ![v214.toNat, 0, 0]
def k0_dev34 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_172 : BitVec 32 := 8#32
  let v210 : BitVec 32 := Scalar.muli v132 c8_i32_172
  let c1_i32_173 : BitVec 32 := 1#32
  let v211 : BitVec 32 := Scalar.addi v2 c1_i32_173
  let c2_i32_174 : BitVec 32 := 2#32
  let v212 : BitVec 32 := Scalar.addi v211 c2_i32_174
  let c8_i32_175 : BitVec 32 := 8#32
  let v213 : BitVec 32 := Scalar.remsi v212 c8_i32_175
  let v214 : BitVec 32 := Scalar.addi v210 v213
  let c1_i32_902 : BitVec 32 := 1#32
  let v1204 : BitVec 32 := Scalar.muli v214 c1_i32_902
  let v1205 : BitVec 32 := Scalar.addi c0_i32_903 v1204
  v1205.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_177 : BitVec 32 := 8#32
  let v218 : BitVec 32 := Scalar.muli v132 c8_i32_177
  let c1_i32_178 : BitVec 32 := 1#32
  let v219 : BitVec 32 := Scalar.addi v2 c1_i32_178
  let c3_i32_179 : BitVec 32 := 3#32
  let v220 : BitVec 32 := Scalar.addi v219 c3_i32_179
  let c8_i32_180 : BitVec 32 := 8#32
  let v221 : BitVec 32 := Scalar.remsi v220 c8_i32_180
  let v222 : BitVec 32 := Scalar.addi v218 v221
  let v223 : BitVec 1 := Scalar.cmpi .ne v222 v2
  let v224 : BitVec 32 := Scalar.extui v223
  let c0_i32_181 : BitVec 32 := 0#32
  let v225 : BitVec 1 := Scalar.cmpi .ne v224 c0_i32_181
  v225

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_177 : BitVec 32 := 8#32
  let v218 : BitVec 32 := Scalar.muli v132 c8_i32_177
  let c1_i32_178 : BitVec 32 := 1#32
  let v219 : BitVec 32 := Scalar.addi v2 c1_i32_178
  let c3_i32_179 : BitVec 32 := 3#32
  let v220 : BitVec 32 := Scalar.addi v219 c3_i32_179
  let c8_i32_180 : BitVec 32 := 8#32
  let v221 : BitVec 32 := Scalar.remsi v220 c8_i32_180
  let v222 : BitVec 32 := Scalar.addi v218 v221
  ![v222.toNat]
def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_177 : BitVec 32 := 8#32
  let v218 : BitVec 32 := Scalar.muli v132 c8_i32_177
  let c1_i32_178 : BitVec 32 := 1#32
  let v219 : BitVec 32 := Scalar.addi v2 c1_i32_178
  let c3_i32_179 : BitVec 32 := 3#32
  let v220 : BitVec 32 := Scalar.addi v219 c3_i32_179
  let c8_i32_180 : BitVec 32 := 8#32
  let v221 : BitVec 32 := Scalar.remsi v220 c8_i32_180
  let v222 : BitVec 32 := Scalar.addi v218 v221
  let c0_i32_905 : BitVec 32 := 0#32
  let c0_i32_906 : BitVec 32 := 0#32
  ![v222.toNat, 0, 0]
def k0_dev35 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_177 : BitVec 32 := 8#32
  let v218 : BitVec 32 := Scalar.muli v132 c8_i32_177
  let c1_i32_178 : BitVec 32 := 1#32
  let v219 : BitVec 32 := Scalar.addi v2 c1_i32_178
  let c3_i32_179 : BitVec 32 := 3#32
  let v220 : BitVec 32 := Scalar.addi v219 c3_i32_179
  let c8_i32_180 : BitVec 32 := 8#32
  let v221 : BitVec 32 := Scalar.remsi v220 c8_i32_180
  let v222 : BitVec 32 := Scalar.addi v218 v221
  let c1_i32_902 : BitVec 32 := 1#32
  let v1204 : BitVec 32 := Scalar.muli v222 c1_i32_902
  let v1205 : BitVec 32 := Scalar.addi c0_i32_903 v1204
  v1205.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_182 : BitVec 32 := 8#32
  let v226 : BitVec 32 := Scalar.muli v132 c8_i32_182
  let c1_i32_183 : BitVec 32 := 1#32
  let v227 : BitVec 32 := Scalar.addi v2 c1_i32_183
  let c4_i32_184 : BitVec 32 := 4#32
  let v228 : BitVec 32 := Scalar.addi v227 c4_i32_184
  let c8_i32_185 : BitVec 32 := 8#32
  let v229 : BitVec 32 := Scalar.remsi v228 c8_i32_185
  let v230 : BitVec 32 := Scalar.addi v226 v229
  let v231 : BitVec 1 := Scalar.cmpi .ne v230 v2
  let v232 : BitVec 32 := Scalar.extui v231
  let c0_i32_186 : BitVec 32 := 0#32
  let v233 : BitVec 1 := Scalar.cmpi .ne v232 c0_i32_186
  v233

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_182 : BitVec 32 := 8#32
  let v226 : BitVec 32 := Scalar.muli v132 c8_i32_182
  let c1_i32_183 : BitVec 32 := 1#32
  let v227 : BitVec 32 := Scalar.addi v2 c1_i32_183
  let c4_i32_184 : BitVec 32 := 4#32
  let v228 : BitVec 32 := Scalar.addi v227 c4_i32_184
  let c8_i32_185 : BitVec 32 := 8#32
  let v229 : BitVec 32 := Scalar.remsi v228 c8_i32_185
  let v230 : BitVec 32 := Scalar.addi v226 v229
  ![v230.toNat]
def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_182 : BitVec 32 := 8#32
  let v226 : BitVec 32 := Scalar.muli v132 c8_i32_182
  let c1_i32_183 : BitVec 32 := 1#32
  let v227 : BitVec 32 := Scalar.addi v2 c1_i32_183
  let c4_i32_184 : BitVec 32 := 4#32
  let v228 : BitVec 32 := Scalar.addi v227 c4_i32_184
  let c8_i32_185 : BitVec 32 := 8#32
  let v229 : BitVec 32 := Scalar.remsi v228 c8_i32_185
  let v230 : BitVec 32 := Scalar.addi v226 v229
  let c0_i32_905 : BitVec 32 := 0#32
  let c0_i32_906 : BitVec 32 := 0#32
  ![v230.toNat, 0, 0]
def k0_dev36 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_182 : BitVec 32 := 8#32
  let v226 : BitVec 32 := Scalar.muli v132 c8_i32_182
  let c1_i32_183 : BitVec 32 := 1#32
  let v227 : BitVec 32 := Scalar.addi v2 c1_i32_183
  let c4_i32_184 : BitVec 32 := 4#32
  let v228 : BitVec 32 := Scalar.addi v227 c4_i32_184
  let c8_i32_185 : BitVec 32 := 8#32
  let v229 : BitVec 32 := Scalar.remsi v228 c8_i32_185
  let v230 : BitVec 32 := Scalar.addi v226 v229
  let c1_i32_902 : BitVec 32 := 1#32
  let v1204 : BitVec 32 := Scalar.muli v230 c1_i32_902
  let v1205 : BitVec 32 := Scalar.addi c0_i32_903 v1204
  v1205.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_187 : BitVec 32 := 8#32
  let v234 : BitVec 32 := Scalar.muli v132 c8_i32_187
  let c1_i32_188 : BitVec 32 := 1#32
  let v235 : BitVec 32 := Scalar.addi v2 c1_i32_188
  let c5_i32_189 : BitVec 32 := 5#32
  let v236 : BitVec 32 := Scalar.addi v235 c5_i32_189
  let c8_i32_190 : BitVec 32 := 8#32
  let v237 : BitVec 32 := Scalar.remsi v236 c8_i32_190
  let v238 : BitVec 32 := Scalar.addi v234 v237
  let v239 : BitVec 1 := Scalar.cmpi .ne v238 v2
  let v240 : BitVec 32 := Scalar.extui v239
  let c0_i32_191 : BitVec 32 := 0#32
  let v241 : BitVec 1 := Scalar.cmpi .ne v240 c0_i32_191
  v241

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_187 : BitVec 32 := 8#32
  let v234 : BitVec 32 := Scalar.muli v132 c8_i32_187
  let c1_i32_188 : BitVec 32 := 1#32
  let v235 : BitVec 32 := Scalar.addi v2 c1_i32_188
  let c5_i32_189 : BitVec 32 := 5#32
  let v236 : BitVec 32 := Scalar.addi v235 c5_i32_189
  let c8_i32_190 : BitVec 32 := 8#32
  let v237 : BitVec 32 := Scalar.remsi v236 c8_i32_190
  let v238 : BitVec 32 := Scalar.addi v234 v237
  ![v238.toNat]
def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_187 : BitVec 32 := 8#32
  let v234 : BitVec 32 := Scalar.muli v132 c8_i32_187
  let c1_i32_188 : BitVec 32 := 1#32
  let v235 : BitVec 32 := Scalar.addi v2 c1_i32_188
  let c5_i32_189 : BitVec 32 := 5#32
  let v236 : BitVec 32 := Scalar.addi v235 c5_i32_189
  let c8_i32_190 : BitVec 32 := 8#32
  let v237 : BitVec 32 := Scalar.remsi v236 c8_i32_190
  let v238 : BitVec 32 := Scalar.addi v234 v237
  let c0_i32_905 : BitVec 32 := 0#32
  let c0_i32_906 : BitVec 32 := 0#32
  ![v238.toNat, 0, 0]
def k0_dev37 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_187 : BitVec 32 := 8#32
  let v234 : BitVec 32 := Scalar.muli v132 c8_i32_187
  let c1_i32_188 : BitVec 32 := 1#32
  let v235 : BitVec 32 := Scalar.addi v2 c1_i32_188
  let c5_i32_189 : BitVec 32 := 5#32
  let v236 : BitVec 32 := Scalar.addi v235 c5_i32_189
  let c8_i32_190 : BitVec 32 := 8#32
  let v237 : BitVec 32 := Scalar.remsi v236 c8_i32_190
  let v238 : BitVec 32 := Scalar.addi v234 v237
  let c1_i32_902 : BitVec 32 := 1#32
  let v1204 : BitVec 32 := Scalar.muli v238 c1_i32_902
  let v1205 : BitVec 32 := Scalar.addi c0_i32_903 v1204
  v1205.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_192 : BitVec 32 := 8#32
  let v242 : BitVec 32 := Scalar.muli v132 c8_i32_192
  let c1_i32_193 : BitVec 32 := 1#32
  let v243 : BitVec 32 := Scalar.addi v2 c1_i32_193
  let c6_i32_194 : BitVec 32 := 6#32
  let v244 : BitVec 32 := Scalar.addi v243 c6_i32_194
  let c8_i32_195 : BitVec 32 := 8#32
  let v245 : BitVec 32 := Scalar.remsi v244 c8_i32_195
  let v246 : BitVec 32 := Scalar.addi v242 v245
  let v247 : BitVec 1 := Scalar.cmpi .ne v246 v2
  let v248 : BitVec 32 := Scalar.extui v247
  let c0_i32_196 : BitVec 32 := 0#32
  let v249 : BitVec 1 := Scalar.cmpi .ne v248 c0_i32_196
  v249

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_192 : BitVec 32 := 8#32
  let v242 : BitVec 32 := Scalar.muli v132 c8_i32_192
  let c1_i32_193 : BitVec 32 := 1#32
  let v243 : BitVec 32 := Scalar.addi v2 c1_i32_193
  let c6_i32_194 : BitVec 32 := 6#32
  let v244 : BitVec 32 := Scalar.addi v243 c6_i32_194
  let c8_i32_195 : BitVec 32 := 8#32
  let v245 : BitVec 32 := Scalar.remsi v244 c8_i32_195
  let v246 : BitVec 32 := Scalar.addi v242 v245
  ![v246.toNat]
def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_192 : BitVec 32 := 8#32
  let v242 : BitVec 32 := Scalar.muli v132 c8_i32_192
  let c1_i32_193 : BitVec 32 := 1#32
  let v243 : BitVec 32 := Scalar.addi v2 c1_i32_193
  let c6_i32_194 : BitVec 32 := 6#32
  let v244 : BitVec 32 := Scalar.addi v243 c6_i32_194
  let c8_i32_195 : BitVec 32 := 8#32
  let v245 : BitVec 32 := Scalar.remsi v244 c8_i32_195
  let v246 : BitVec 32 := Scalar.addi v242 v245
  let c0_i32_905 : BitVec 32 := 0#32
  let c0_i32_906 : BitVec 32 := 0#32
  ![v246.toNat, 0, 0]
def k0_dev38 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_192 : BitVec 32 := 8#32
  let v242 : BitVec 32 := Scalar.muli v132 c8_i32_192
  let c1_i32_193 : BitVec 32 := 1#32
  let v243 : BitVec 32 := Scalar.addi v2 c1_i32_193
  let c6_i32_194 : BitVec 32 := 6#32
  let v244 : BitVec 32 := Scalar.addi v243 c6_i32_194
  let c8_i32_195 : BitVec 32 := 8#32
  let v245 : BitVec 32 := Scalar.remsi v244 c8_i32_195
  let v246 : BitVec 32 := Scalar.addi v242 v245
  let c1_i32_902 : BitVec 32 := 1#32
  let v1204 : BitVec 32 := Scalar.muli v246 c1_i32_902
  let v1205 : BitVec 32 := Scalar.addi c0_i32_903 v1204
  v1205.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_197 : BitVec 32 := 8#32
  let v250 : BitVec 32 := Scalar.muli v132 c8_i32_197
  let c1_i32_198 : BitVec 32 := 1#32
  let v251 : BitVec 32 := Scalar.addi v2 c1_i32_198
  let c7_i32_199 : BitVec 32 := 7#32
  let v252 : BitVec 32 := Scalar.addi v251 c7_i32_199
  let c8_i32_200 : BitVec 32 := 8#32
  let v253 : BitVec 32 := Scalar.remsi v252 c8_i32_200
  let v254 : BitVec 32 := Scalar.addi v250 v253
  let v255 : BitVec 1 := Scalar.cmpi .ne v254 v2
  let v256 : BitVec 32 := Scalar.extui v255
  let c0_i32_201 : BitVec 32 := 0#32
  let v257 : BitVec 1 := Scalar.cmpi .ne v256 c0_i32_201
  v257

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_197 : BitVec 32 := 8#32
  let v250 : BitVec 32 := Scalar.muli v132 c8_i32_197
  let c1_i32_198 : BitVec 32 := 1#32
  let v251 : BitVec 32 := Scalar.addi v2 c1_i32_198
  let c7_i32_199 : BitVec 32 := 7#32
  let v252 : BitVec 32 := Scalar.addi v251 c7_i32_199
  let c8_i32_200 : BitVec 32 := 8#32
  let v253 : BitVec 32 := Scalar.remsi v252 c8_i32_200
  let v254 : BitVec 32 := Scalar.addi v250 v253
  ![v254.toNat]
def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_197 : BitVec 32 := 8#32
  let v250 : BitVec 32 := Scalar.muli v132 c8_i32_197
  let c1_i32_198 : BitVec 32 := 1#32
  let v251 : BitVec 32 := Scalar.addi v2 c1_i32_198
  let c7_i32_199 : BitVec 32 := 7#32
  let v252 : BitVec 32 := Scalar.addi v251 c7_i32_199
  let c8_i32_200 : BitVec 32 := 8#32
  let v253 : BitVec 32 := Scalar.remsi v252 c8_i32_200
  let v254 : BitVec 32 := Scalar.addi v250 v253
  let c0_i32_905 : BitVec 32 := 0#32
  let c0_i32_906 : BitVec 32 := 0#32
  ![v254.toNat, 0, 0]
def k0_dev39 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c0_i32_126 : BitVec 32 := 0#32
  let v131 : BitVec 32 := Scalar.addi v3 c0_i32_126
  let c4_i32_127 : BitVec 32 := 4#32
  let v132 : BitVec 32 := Scalar.remsi v131 c4_i32_127
  let c8_i32_197 : BitVec 32 := 8#32
  let v250 : BitVec 32 := Scalar.muli v132 c8_i32_197
  let c1_i32_198 : BitVec 32 := 1#32
  let v251 : BitVec 32 := Scalar.addi v2 c1_i32_198
  let c7_i32_199 : BitVec 32 := 7#32
  let v252 : BitVec 32 := Scalar.addi v251 c7_i32_199
  let c8_i32_200 : BitVec 32 := 8#32
  let v253 : BitVec 32 := Scalar.remsi v252 c8_i32_200
  let v254 : BitVec 32 := Scalar.addi v250 v253
  let c1_i32_902 : BitVec 32 := 1#32
  let v1204 : BitVec 32 := Scalar.muli v254 c1_i32_902
  let v1205 : BitVec 32 := Scalar.addi c0_i32_903 v1204
  v1205.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_239 : BitVec 32 := 8#32
  let v321 : BitVec 32 := Scalar.muli v259 c8_i32_239
  let c1_i32_240 : BitVec 32 := 1#32
  let v322 : BitVec 32 := Scalar.addi v2 c1_i32_240
  let c0_i32_241 : BitVec 32 := 0#32
  let v323 : BitVec 32 := Scalar.addi v322 c0_i32_241
  let c8_i32_242 : BitVec 32 := 8#32
  let v324 : BitVec 32 := Scalar.remsi v323 c8_i32_242
  let v325 : BitVec 32 := Scalar.addi v321 v324
  let v326 : BitVec 1 := Scalar.cmpi .ne v325 v2
  let v327 : BitVec 32 := Scalar.extui v326
  let c0_i32_243 : BitVec 32 := 0#32
  let v328 : BitVec 1 := Scalar.cmpi .ne v327 c0_i32_243
  v328

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_239 : BitVec 32 := 8#32
  let v321 : BitVec 32 := Scalar.muli v259 c8_i32_239
  let c1_i32_240 : BitVec 32 := 1#32
  let v322 : BitVec 32 := Scalar.addi v2 c1_i32_240
  let c0_i32_241 : BitVec 32 := 0#32
  let v323 : BitVec 32 := Scalar.addi v322 c0_i32_241
  let c8_i32_242 : BitVec 32 := 8#32
  let v324 : BitVec 32 := Scalar.remsi v323 c8_i32_242
  let v325 : BitVec 32 := Scalar.addi v321 v324
  ![v325.toNat]
def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_239 : BitVec 32 := 8#32
  let v321 : BitVec 32 := Scalar.muli v259 c8_i32_239
  let c1_i32_240 : BitVec 32 := 1#32
  let v322 : BitVec 32 := Scalar.addi v2 c1_i32_240
  let c0_i32_241 : BitVec 32 := 0#32
  let v323 : BitVec 32 := Scalar.addi v322 c0_i32_241
  let c8_i32_242 : BitVec 32 := 8#32
  let v324 : BitVec 32 := Scalar.remsi v323 c8_i32_242
  let v325 : BitVec 32 := Scalar.addi v321 v324
  let c0_i32_905 : BitVec 32 := 0#32
  let c0_i32_906 : BitVec 32 := 0#32
  ![v325.toNat, 0, 0]
def k0_dev40 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_239 : BitVec 32 := 8#32
  let v321 : BitVec 32 := Scalar.muli v259 c8_i32_239
  let c1_i32_240 : BitVec 32 := 1#32
  let v322 : BitVec 32 := Scalar.addi v2 c1_i32_240
  let c0_i32_241 : BitVec 32 := 0#32
  let v323 : BitVec 32 := Scalar.addi v322 c0_i32_241
  let c8_i32_242 : BitVec 32 := 8#32
  let v324 : BitVec 32 := Scalar.remsi v323 c8_i32_242
  let v325 : BitVec 32 := Scalar.addi v321 v324
  let c1_i32_902 : BitVec 32 := 1#32
  let v1204 : BitVec 32 := Scalar.muli v325 c1_i32_902
  let v1205 : BitVec 32 := Scalar.addi c0_i32_903 v1204
  v1205.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_244 : BitVec 32 := 8#32
  let v329 : BitVec 32 := Scalar.muli v259 c8_i32_244
  let c1_i32_245 : BitVec 32 := 1#32
  let v330 : BitVec 32 := Scalar.addi v2 c1_i32_245
  let c1_i32_246 : BitVec 32 := 1#32
  let v331 : BitVec 32 := Scalar.addi v330 c1_i32_246
  let c8_i32_247 : BitVec 32 := 8#32
  let v332 : BitVec 32 := Scalar.remsi v331 c8_i32_247
  let v333 : BitVec 32 := Scalar.addi v329 v332
  let v334 : BitVec 1 := Scalar.cmpi .ne v333 v2
  let v335 : BitVec 32 := Scalar.extui v334
  let c0_i32_248 : BitVec 32 := 0#32
  let v336 : BitVec 1 := Scalar.cmpi .ne v335 c0_i32_248
  v336

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_244 : BitVec 32 := 8#32
  let v329 : BitVec 32 := Scalar.muli v259 c8_i32_244
  let c1_i32_245 : BitVec 32 := 1#32
  let v330 : BitVec 32 := Scalar.addi v2 c1_i32_245
  let c1_i32_246 : BitVec 32 := 1#32
  let v331 : BitVec 32 := Scalar.addi v330 c1_i32_246
  let c8_i32_247 : BitVec 32 := 8#32
  let v332 : BitVec 32 := Scalar.remsi v331 c8_i32_247
  let v333 : BitVec 32 := Scalar.addi v329 v332
  ![v333.toNat]
def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_244 : BitVec 32 := 8#32
  let v329 : BitVec 32 := Scalar.muli v259 c8_i32_244
  let c1_i32_245 : BitVec 32 := 1#32
  let v330 : BitVec 32 := Scalar.addi v2 c1_i32_245
  let c1_i32_246 : BitVec 32 := 1#32
  let v331 : BitVec 32 := Scalar.addi v330 c1_i32_246
  let c8_i32_247 : BitVec 32 := 8#32
  let v332 : BitVec 32 := Scalar.remsi v331 c8_i32_247
  let v333 : BitVec 32 := Scalar.addi v329 v332
  let c0_i32_905 : BitVec 32 := 0#32
  let c0_i32_906 : BitVec 32 := 0#32
  ![v333.toNat, 0, 0]
def k0_dev41 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_244 : BitVec 32 := 8#32
  let v329 : BitVec 32 := Scalar.muli v259 c8_i32_244
  let c1_i32_245 : BitVec 32 := 1#32
  let v330 : BitVec 32 := Scalar.addi v2 c1_i32_245
  let c1_i32_246 : BitVec 32 := 1#32
  let v331 : BitVec 32 := Scalar.addi v330 c1_i32_246
  let c8_i32_247 : BitVec 32 := 8#32
  let v332 : BitVec 32 := Scalar.remsi v331 c8_i32_247
  let v333 : BitVec 32 := Scalar.addi v329 v332
  let c1_i32_902 : BitVec 32 := 1#32
  let v1204 : BitVec 32 := Scalar.muli v333 c1_i32_902
  let v1205 : BitVec 32 := Scalar.addi c0_i32_903 v1204
  v1205.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_249 : BitVec 32 := 8#32
  let v337 : BitVec 32 := Scalar.muli v259 c8_i32_249
  let c1_i32_250 : BitVec 32 := 1#32
  let v338 : BitVec 32 := Scalar.addi v2 c1_i32_250
  let c2_i32_251 : BitVec 32 := 2#32
  let v339 : BitVec 32 := Scalar.addi v338 c2_i32_251
  let c8_i32_252 : BitVec 32 := 8#32
  let v340 : BitVec 32 := Scalar.remsi v339 c8_i32_252
  let v341 : BitVec 32 := Scalar.addi v337 v340
  let v342 : BitVec 1 := Scalar.cmpi .ne v341 v2
  let v343 : BitVec 32 := Scalar.extui v342
  let c0_i32_253 : BitVec 32 := 0#32
  let v344 : BitVec 1 := Scalar.cmpi .ne v343 c0_i32_253
  v344

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_249 : BitVec 32 := 8#32
  let v337 : BitVec 32 := Scalar.muli v259 c8_i32_249
  let c1_i32_250 : BitVec 32 := 1#32
  let v338 : BitVec 32 := Scalar.addi v2 c1_i32_250
  let c2_i32_251 : BitVec 32 := 2#32
  let v339 : BitVec 32 := Scalar.addi v338 c2_i32_251
  let c8_i32_252 : BitVec 32 := 8#32
  let v340 : BitVec 32 := Scalar.remsi v339 c8_i32_252
  let v341 : BitVec 32 := Scalar.addi v337 v340
  ![v341.toNat]
def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_249 : BitVec 32 := 8#32
  let v337 : BitVec 32 := Scalar.muli v259 c8_i32_249
  let c1_i32_250 : BitVec 32 := 1#32
  let v338 : BitVec 32 := Scalar.addi v2 c1_i32_250
  let c2_i32_251 : BitVec 32 := 2#32
  let v339 : BitVec 32 := Scalar.addi v338 c2_i32_251
  let c8_i32_252 : BitVec 32 := 8#32
  let v340 : BitVec 32 := Scalar.remsi v339 c8_i32_252
  let v341 : BitVec 32 := Scalar.addi v337 v340
  let c0_i32_905 : BitVec 32 := 0#32
  let c0_i32_906 : BitVec 32 := 0#32
  ![v341.toNat, 0, 0]
def k0_dev42 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_249 : BitVec 32 := 8#32
  let v337 : BitVec 32 := Scalar.muli v259 c8_i32_249
  let c1_i32_250 : BitVec 32 := 1#32
  let v338 : BitVec 32 := Scalar.addi v2 c1_i32_250
  let c2_i32_251 : BitVec 32 := 2#32
  let v339 : BitVec 32 := Scalar.addi v338 c2_i32_251
  let c8_i32_252 : BitVec 32 := 8#32
  let v340 : BitVec 32 := Scalar.remsi v339 c8_i32_252
  let v341 : BitVec 32 := Scalar.addi v337 v340
  let c1_i32_902 : BitVec 32 := 1#32
  let v1204 : BitVec 32 := Scalar.muli v341 c1_i32_902
  let v1205 : BitVec 32 := Scalar.addi c0_i32_903 v1204
  v1205.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_254 : BitVec 32 := 8#32
  let v345 : BitVec 32 := Scalar.muli v259 c8_i32_254
  let c1_i32_255 : BitVec 32 := 1#32
  let v346 : BitVec 32 := Scalar.addi v2 c1_i32_255
  let c3_i32_256 : BitVec 32 := 3#32
  let v347 : BitVec 32 := Scalar.addi v346 c3_i32_256
  let c8_i32_257 : BitVec 32 := 8#32
  let v348 : BitVec 32 := Scalar.remsi v347 c8_i32_257
  let v349 : BitVec 32 := Scalar.addi v345 v348
  let v350 : BitVec 1 := Scalar.cmpi .ne v349 v2
  let v351 : BitVec 32 := Scalar.extui v350
  let c0_i32_258 : BitVec 32 := 0#32
  let v352 : BitVec 1 := Scalar.cmpi .ne v351 c0_i32_258
  v352

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_254 : BitVec 32 := 8#32
  let v345 : BitVec 32 := Scalar.muli v259 c8_i32_254
  let c1_i32_255 : BitVec 32 := 1#32
  let v346 : BitVec 32 := Scalar.addi v2 c1_i32_255
  let c3_i32_256 : BitVec 32 := 3#32
  let v347 : BitVec 32 := Scalar.addi v346 c3_i32_256
  let c8_i32_257 : BitVec 32 := 8#32
  let v348 : BitVec 32 := Scalar.remsi v347 c8_i32_257
  let v349 : BitVec 32 := Scalar.addi v345 v348
  ![v349.toNat]
def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off50 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_254 : BitVec 32 := 8#32
  let v345 : BitVec 32 := Scalar.muli v259 c8_i32_254
  let c1_i32_255 : BitVec 32 := 1#32
  let v346 : BitVec 32 := Scalar.addi v2 c1_i32_255
  let c3_i32_256 : BitVec 32 := 3#32
  let v347 : BitVec 32 := Scalar.addi v346 c3_i32_256
  let c8_i32_257 : BitVec 32 := 8#32
  let v348 : BitVec 32 := Scalar.remsi v347 c8_i32_257
  let v349 : BitVec 32 := Scalar.addi v345 v348
  let c0_i32_905 : BitVec 32 := 0#32
  let c0_i32_906 : BitVec 32 := 0#32
  ![v349.toNat, 0, 0]
def k0_dev43 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_254 : BitVec 32 := 8#32
  let v345 : BitVec 32 := Scalar.muli v259 c8_i32_254
  let c1_i32_255 : BitVec 32 := 1#32
  let v346 : BitVec 32 := Scalar.addi v2 c1_i32_255
  let c3_i32_256 : BitVec 32 := 3#32
  let v347 : BitVec 32 := Scalar.addi v346 c3_i32_256
  let c8_i32_257 : BitVec 32 := 8#32
  let v348 : BitVec 32 := Scalar.remsi v347 c8_i32_257
  let v349 : BitVec 32 := Scalar.addi v345 v348
  let c1_i32_902 : BitVec 32 := 1#32
  let v1204 : BitVec 32 := Scalar.muli v349 c1_i32_902
  let v1205 : BitVec 32 := Scalar.addi c0_i32_903 v1204
  v1205.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_259 : BitVec 32 := 8#32
  let v353 : BitVec 32 := Scalar.muli v259 c8_i32_259
  let c1_i32_260 : BitVec 32 := 1#32
  let v354 : BitVec 32 := Scalar.addi v2 c1_i32_260
  let c4_i32_261 : BitVec 32 := 4#32
  let v355 : BitVec 32 := Scalar.addi v354 c4_i32_261
  let c8_i32_262 : BitVec 32 := 8#32
  let v356 : BitVec 32 := Scalar.remsi v355 c8_i32_262
  let v357 : BitVec 32 := Scalar.addi v353 v356
  let v358 : BitVec 1 := Scalar.cmpi .ne v357 v2
  let v359 : BitVec 32 := Scalar.extui v358
  let c0_i32_263 : BitVec 32 := 0#32
  let v360 : BitVec 1 := Scalar.cmpi .ne v359 c0_i32_263
  v360

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_259 : BitVec 32 := 8#32
  let v353 : BitVec 32 := Scalar.muli v259 c8_i32_259
  let c1_i32_260 : BitVec 32 := 1#32
  let v354 : BitVec 32 := Scalar.addi v2 c1_i32_260
  let c4_i32_261 : BitVec 32 := 4#32
  let v355 : BitVec 32 := Scalar.addi v354 c4_i32_261
  let c8_i32_262 : BitVec 32 := 8#32
  let v356 : BitVec 32 := Scalar.remsi v355 c8_i32_262
  let v357 : BitVec 32 := Scalar.addi v353 v356
  ![v357.toNat]
def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_259 : BitVec 32 := 8#32
  let v353 : BitVec 32 := Scalar.muli v259 c8_i32_259
  let c1_i32_260 : BitVec 32 := 1#32
  let v354 : BitVec 32 := Scalar.addi v2 c1_i32_260
  let c4_i32_261 : BitVec 32 := 4#32
  let v355 : BitVec 32 := Scalar.addi v354 c4_i32_261
  let c8_i32_262 : BitVec 32 := 8#32
  let v356 : BitVec 32 := Scalar.remsi v355 c8_i32_262
  let v357 : BitVec 32 := Scalar.addi v353 v356
  let c0_i32_905 : BitVec 32 := 0#32
  let c0_i32_906 : BitVec 32 := 0#32
  ![v357.toNat, 0, 0]
def k0_dev44 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_259 : BitVec 32 := 8#32
  let v353 : BitVec 32 := Scalar.muli v259 c8_i32_259
  let c1_i32_260 : BitVec 32 := 1#32
  let v354 : BitVec 32 := Scalar.addi v2 c1_i32_260
  let c4_i32_261 : BitVec 32 := 4#32
  let v355 : BitVec 32 := Scalar.addi v354 c4_i32_261
  let c8_i32_262 : BitVec 32 := 8#32
  let v356 : BitVec 32 := Scalar.remsi v355 c8_i32_262
  let v357 : BitVec 32 := Scalar.addi v353 v356
  let c1_i32_902 : BitVec 32 := 1#32
  let v1204 : BitVec 32 := Scalar.muli v357 c1_i32_902
  let v1205 : BitVec 32 := Scalar.addi c0_i32_903 v1204
  v1205.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_264 : BitVec 32 := 8#32
  let v361 : BitVec 32 := Scalar.muli v259 c8_i32_264
  let c1_i32_265 : BitVec 32 := 1#32
  let v362 : BitVec 32 := Scalar.addi v2 c1_i32_265
  let c5_i32_266 : BitVec 32 := 5#32
  let v363 : BitVec 32 := Scalar.addi v362 c5_i32_266
  let c8_i32_267 : BitVec 32 := 8#32
  let v364 : BitVec 32 := Scalar.remsi v363 c8_i32_267
  let v365 : BitVec 32 := Scalar.addi v361 v364
  let v366 : BitVec 1 := Scalar.cmpi .ne v365 v2
  let v367 : BitVec 32 := Scalar.extui v366
  let c0_i32_268 : BitVec 32 := 0#32
  let v368 : BitVec 1 := Scalar.cmpi .ne v367 c0_i32_268
  v368

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_264 : BitVec 32 := 8#32
  let v361 : BitVec 32 := Scalar.muli v259 c8_i32_264
  let c1_i32_265 : BitVec 32 := 1#32
  let v362 : BitVec 32 := Scalar.addi v2 c1_i32_265
  let c5_i32_266 : BitVec 32 := 5#32
  let v363 : BitVec 32 := Scalar.addi v362 c5_i32_266
  let c8_i32_267 : BitVec 32 := 8#32
  let v364 : BitVec 32 := Scalar.remsi v363 c8_i32_267
  let v365 : BitVec 32 := Scalar.addi v361 v364
  ![v365.toNat]
def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_264 : BitVec 32 := 8#32
  let v361 : BitVec 32 := Scalar.muli v259 c8_i32_264
  let c1_i32_265 : BitVec 32 := 1#32
  let v362 : BitVec 32 := Scalar.addi v2 c1_i32_265
  let c5_i32_266 : BitVec 32 := 5#32
  let v363 : BitVec 32 := Scalar.addi v362 c5_i32_266
  let c8_i32_267 : BitVec 32 := 8#32
  let v364 : BitVec 32 := Scalar.remsi v363 c8_i32_267
  let v365 : BitVec 32 := Scalar.addi v361 v364
  let c0_i32_905 : BitVec 32 := 0#32
  let c0_i32_906 : BitVec 32 := 0#32
  ![v365.toNat, 0, 0]
def k0_dev45 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_264 : BitVec 32 := 8#32
  let v361 : BitVec 32 := Scalar.muli v259 c8_i32_264
  let c1_i32_265 : BitVec 32 := 1#32
  let v362 : BitVec 32 := Scalar.addi v2 c1_i32_265
  let c5_i32_266 : BitVec 32 := 5#32
  let v363 : BitVec 32 := Scalar.addi v362 c5_i32_266
  let c8_i32_267 : BitVec 32 := 8#32
  let v364 : BitVec 32 := Scalar.remsi v363 c8_i32_267
  let v365 : BitVec 32 := Scalar.addi v361 v364
  let c1_i32_902 : BitVec 32 := 1#32
  let v1204 : BitVec 32 := Scalar.muli v365 c1_i32_902
  let v1205 : BitVec 32 := Scalar.addi c0_i32_903 v1204
  v1205.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_269 : BitVec 32 := 8#32
  let v369 : BitVec 32 := Scalar.muli v259 c8_i32_269
  let c1_i32_270 : BitVec 32 := 1#32
  let v370 : BitVec 32 := Scalar.addi v2 c1_i32_270
  let c6_i32_271 : BitVec 32 := 6#32
  let v371 : BitVec 32 := Scalar.addi v370 c6_i32_271
  let c8_i32_272 : BitVec 32 := 8#32
  let v372 : BitVec 32 := Scalar.remsi v371 c8_i32_272
  let v373 : BitVec 32 := Scalar.addi v369 v372
  let v374 : BitVec 1 := Scalar.cmpi .ne v373 v2
  let v375 : BitVec 32 := Scalar.extui v374
  let c0_i32_273 : BitVec 32 := 0#32
  let v376 : BitVec 1 := Scalar.cmpi .ne v375 c0_i32_273
  v376

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_269 : BitVec 32 := 8#32
  let v369 : BitVec 32 := Scalar.muli v259 c8_i32_269
  let c1_i32_270 : BitVec 32 := 1#32
  let v370 : BitVec 32 := Scalar.addi v2 c1_i32_270
  let c6_i32_271 : BitVec 32 := 6#32
  let v371 : BitVec 32 := Scalar.addi v370 c6_i32_271
  let c8_i32_272 : BitVec 32 := 8#32
  let v372 : BitVec 32 := Scalar.remsi v371 c8_i32_272
  let v373 : BitVec 32 := Scalar.addi v369 v372
  ![v373.toNat]
def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off62 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_269 : BitVec 32 := 8#32
  let v369 : BitVec 32 := Scalar.muli v259 c8_i32_269
  let c1_i32_270 : BitVec 32 := 1#32
  let v370 : BitVec 32 := Scalar.addi v2 c1_i32_270
  let c6_i32_271 : BitVec 32 := 6#32
  let v371 : BitVec 32 := Scalar.addi v370 c6_i32_271
  let c8_i32_272 : BitVec 32 := 8#32
  let v372 : BitVec 32 := Scalar.remsi v371 c8_i32_272
  let v373 : BitVec 32 := Scalar.addi v369 v372
  let c0_i32_905 : BitVec 32 := 0#32
  let c0_i32_906 : BitVec 32 := 0#32
  ![v373.toNat, 0, 0]
def k0_dev46 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_269 : BitVec 32 := 8#32
  let v369 : BitVec 32 := Scalar.muli v259 c8_i32_269
  let c1_i32_270 : BitVec 32 := 1#32
  let v370 : BitVec 32 := Scalar.addi v2 c1_i32_270
  let c6_i32_271 : BitVec 32 := 6#32
  let v371 : BitVec 32 := Scalar.addi v370 c6_i32_271
  let c8_i32_272 : BitVec 32 := 8#32
  let v372 : BitVec 32 := Scalar.remsi v371 c8_i32_272
  let v373 : BitVec 32 := Scalar.addi v369 v372
  let c1_i32_902 : BitVec 32 := 1#32
  let v1204 : BitVec 32 := Scalar.muli v373 c1_i32_902
  let v1205 : BitVec 32 := Scalar.addi c0_i32_903 v1204
  v1205.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_274 : BitVec 32 := 8#32
  let v377 : BitVec 32 := Scalar.muli v259 c8_i32_274
  let c1_i32_275 : BitVec 32 := 1#32
  let v378 : BitVec 32 := Scalar.addi v2 c1_i32_275
  let c7_i32_276 : BitVec 32 := 7#32
  let v379 : BitVec 32 := Scalar.addi v378 c7_i32_276
  let c8_i32_277 : BitVec 32 := 8#32
  let v380 : BitVec 32 := Scalar.remsi v379 c8_i32_277
  let v381 : BitVec 32 := Scalar.addi v377 v380
  let v382 : BitVec 1 := Scalar.cmpi .ne v381 v2
  let v383 : BitVec 32 := Scalar.extui v382
  let c0_i32_278 : BitVec 32 := 0#32
  let v384 : BitVec 1 := Scalar.cmpi .ne v383 c0_i32_278
  v384

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_274 : BitVec 32 := 8#32
  let v377 : BitVec 32 := Scalar.muli v259 c8_i32_274
  let c1_i32_275 : BitVec 32 := 1#32
  let v378 : BitVec 32 := Scalar.addi v2 c1_i32_275
  let c7_i32_276 : BitVec 32 := 7#32
  let v379 : BitVec 32 := Scalar.addi v378 c7_i32_276
  let c8_i32_277 : BitVec 32 := 8#32
  let v380 : BitVec 32 := Scalar.remsi v379 c8_i32_277
  let v381 : BitVec 32 := Scalar.addi v377 v380
  ![v381.toNat]
def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_274 : BitVec 32 := 8#32
  let v377 : BitVec 32 := Scalar.muli v259 c8_i32_274
  let c1_i32_275 : BitVec 32 := 1#32
  let v378 : BitVec 32 := Scalar.addi v2 c1_i32_275
  let c7_i32_276 : BitVec 32 := 7#32
  let v379 : BitVec 32 := Scalar.addi v378 c7_i32_276
  let c8_i32_277 : BitVec 32 := 8#32
  let v380 : BitVec 32 := Scalar.remsi v379 c8_i32_277
  let v381 : BitVec 32 := Scalar.addi v377 v380
  let c0_i32_905 : BitVec 32 := 0#32
  let c0_i32_906 : BitVec 32 := 0#32
  ![v381.toNat, 0, 0]
def k0_dev47 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_202 : BitVec 32 := 1#32
  let v258 : BitVec 32 := Scalar.addi v3 c1_i32_202
  let c4_i32_203 : BitVec 32 := 4#32
  let v259 : BitVec 32 := Scalar.remsi v258 c4_i32_203
  let c8_i32_274 : BitVec 32 := 8#32
  let v377 : BitVec 32 := Scalar.muli v259 c8_i32_274
  let c1_i32_275 : BitVec 32 := 1#32
  let v378 : BitVec 32 := Scalar.addi v2 c1_i32_275
  let c7_i32_276 : BitVec 32 := 7#32
  let v379 : BitVec 32 := Scalar.addi v378 c7_i32_276
  let c8_i32_277 : BitVec 32 := 8#32
  let v380 : BitVec 32 := Scalar.remsi v379 c8_i32_277
  let v381 : BitVec 32 := Scalar.addi v377 v380
  let c1_i32_902 : BitVec 32 := 1#32
  let v1204 : BitVec 32 := Scalar.muli v381 c1_i32_902
  let v1205 : BitVec 32 := Scalar.addi c0_i32_903 v1204
  v1205.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_316 : BitVec 32 := 8#32
  let v448 : BitVec 32 := Scalar.muli v386 c8_i32_316
  let c1_i32_317 : BitVec 32 := 1#32
  let v449 : BitVec 32 := Scalar.addi v2 c1_i32_317
  let c0_i32_318 : BitVec 32 := 0#32
  let v450 : BitVec 32 := Scalar.addi v449 c0_i32_318
  let c8_i32_319 : BitVec 32 := 8#32
  let v451 : BitVec 32 := Scalar.remsi v450 c8_i32_319
  let v452 : BitVec 32 := Scalar.addi v448 v451
  let v453 : BitVec 1 := Scalar.cmpi .ne v452 v2
  let v454 : BitVec 32 := Scalar.extui v453
  let c0_i32_320 : BitVec 32 := 0#32
  let v455 : BitVec 1 := Scalar.cmpi .ne v454 c0_i32_320
  v455

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_316 : BitVec 32 := 8#32
  let v448 : BitVec 32 := Scalar.muli v386 c8_i32_316
  let c1_i32_317 : BitVec 32 := 1#32
  let v449 : BitVec 32 := Scalar.addi v2 c1_i32_317
  let c0_i32_318 : BitVec 32 := 0#32
  let v450 : BitVec 32 := Scalar.addi v449 c0_i32_318
  let c8_i32_319 : BitVec 32 := 8#32
  let v451 : BitVec 32 := Scalar.remsi v450 c8_i32_319
  let v452 : BitVec 32 := Scalar.addi v448 v451
  ![v452.toNat]
def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_316 : BitVec 32 := 8#32
  let v448 : BitVec 32 := Scalar.muli v386 c8_i32_316
  let c1_i32_317 : BitVec 32 := 1#32
  let v449 : BitVec 32 := Scalar.addi v2 c1_i32_317
  let c0_i32_318 : BitVec 32 := 0#32
  let v450 : BitVec 32 := Scalar.addi v449 c0_i32_318
  let c8_i32_319 : BitVec 32 := 8#32
  let v451 : BitVec 32 := Scalar.remsi v450 c8_i32_319
  let v452 : BitVec 32 := Scalar.addi v448 v451
  let c0_i32_905 : BitVec 32 := 0#32
  let c0_i32_906 : BitVec 32 := 0#32
  ![v452.toNat, 0, 0]
def k0_dev48 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_316 : BitVec 32 := 8#32
  let v448 : BitVec 32 := Scalar.muli v386 c8_i32_316
  let c1_i32_317 : BitVec 32 := 1#32
  let v449 : BitVec 32 := Scalar.addi v2 c1_i32_317
  let c0_i32_318 : BitVec 32 := 0#32
  let v450 : BitVec 32 := Scalar.addi v449 c0_i32_318
  let c8_i32_319 : BitVec 32 := 8#32
  let v451 : BitVec 32 := Scalar.remsi v450 c8_i32_319
  let v452 : BitVec 32 := Scalar.addi v448 v451
  let c1_i32_902 : BitVec 32 := 1#32
  let v1204 : BitVec 32 := Scalar.muli v452 c1_i32_902
  let v1205 : BitVec 32 := Scalar.addi c0_i32_903 v1204
  v1205.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_321 : BitVec 32 := 8#32
  let v456 : BitVec 32 := Scalar.muli v386 c8_i32_321
  let c1_i32_322 : BitVec 32 := 1#32
  let v457 : BitVec 32 := Scalar.addi v2 c1_i32_322
  let c1_i32_323 : BitVec 32 := 1#32
  let v458 : BitVec 32 := Scalar.addi v457 c1_i32_323
  let c8_i32_324 : BitVec 32 := 8#32
  let v459 : BitVec 32 := Scalar.remsi v458 c8_i32_324
  let v460 : BitVec 32 := Scalar.addi v456 v459
  let v461 : BitVec 1 := Scalar.cmpi .ne v460 v2
  let v462 : BitVec 32 := Scalar.extui v461
  let c0_i32_325 : BitVec 32 := 0#32
  let v463 : BitVec 1 := Scalar.cmpi .ne v462 c0_i32_325
  v463

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_321 : BitVec 32 := 8#32
  let v456 : BitVec 32 := Scalar.muli v386 c8_i32_321
  let c1_i32_322 : BitVec 32 := 1#32
  let v457 : BitVec 32 := Scalar.addi v2 c1_i32_322
  let c1_i32_323 : BitVec 32 := 1#32
  let v458 : BitVec 32 := Scalar.addi v457 c1_i32_323
  let c8_i32_324 : BitVec 32 := 8#32
  let v459 : BitVec 32 := Scalar.remsi v458 c8_i32_324
  let v460 : BitVec 32 := Scalar.addi v456 v459
  ![v460.toNat]
def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_321 : BitVec 32 := 8#32
  let v456 : BitVec 32 := Scalar.muli v386 c8_i32_321
  let c1_i32_322 : BitVec 32 := 1#32
  let v457 : BitVec 32 := Scalar.addi v2 c1_i32_322
  let c1_i32_323 : BitVec 32 := 1#32
  let v458 : BitVec 32 := Scalar.addi v457 c1_i32_323
  let c8_i32_324 : BitVec 32 := 8#32
  let v459 : BitVec 32 := Scalar.remsi v458 c8_i32_324
  let v460 : BitVec 32 := Scalar.addi v456 v459
  let c0_i32_905 : BitVec 32 := 0#32
  let c0_i32_906 : BitVec 32 := 0#32
  ![v460.toNat, 0, 0]
def k0_dev49 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_321 : BitVec 32 := 8#32
  let v456 : BitVec 32 := Scalar.muli v386 c8_i32_321
  let c1_i32_322 : BitVec 32 := 1#32
  let v457 : BitVec 32 := Scalar.addi v2 c1_i32_322
  let c1_i32_323 : BitVec 32 := 1#32
  let v458 : BitVec 32 := Scalar.addi v457 c1_i32_323
  let c8_i32_324 : BitVec 32 := 8#32
  let v459 : BitVec 32 := Scalar.remsi v458 c8_i32_324
  let v460 : BitVec 32 := Scalar.addi v456 v459
  let c1_i32_902 : BitVec 32 := 1#32
  let v1204 : BitVec 32 := Scalar.muli v460 c1_i32_902
  let v1205 : BitVec 32 := Scalar.addi c0_i32_903 v1204
  v1205.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_326 : BitVec 32 := 8#32
  let v464 : BitVec 32 := Scalar.muli v386 c8_i32_326
  let c1_i32_327 : BitVec 32 := 1#32
  let v465 : BitVec 32 := Scalar.addi v2 c1_i32_327
  let c2_i32_328 : BitVec 32 := 2#32
  let v466 : BitVec 32 := Scalar.addi v465 c2_i32_328
  let c8_i32_329 : BitVec 32 := 8#32
  let v467 : BitVec 32 := Scalar.remsi v466 c8_i32_329
  let v468 : BitVec 32 := Scalar.addi v464 v467
  let v469 : BitVec 1 := Scalar.cmpi .ne v468 v2
  let v470 : BitVec 32 := Scalar.extui v469
  let c0_i32_330 : BitVec 32 := 0#32
  let v471 : BitVec 1 := Scalar.cmpi .ne v470 c0_i32_330
  v471

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_326 : BitVec 32 := 8#32
  let v464 : BitVec 32 := Scalar.muli v386 c8_i32_326
  let c1_i32_327 : BitVec 32 := 1#32
  let v465 : BitVec 32 := Scalar.addi v2 c1_i32_327
  let c2_i32_328 : BitVec 32 := 2#32
  let v466 : BitVec 32 := Scalar.addi v465 c2_i32_328
  let c8_i32_329 : BitVec 32 := 8#32
  let v467 : BitVec 32 := Scalar.remsi v466 c8_i32_329
  let v468 : BitVec 32 := Scalar.addi v464 v467
  ![v468.toNat]
def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_326 : BitVec 32 := 8#32
  let v464 : BitVec 32 := Scalar.muli v386 c8_i32_326
  let c1_i32_327 : BitVec 32 := 1#32
  let v465 : BitVec 32 := Scalar.addi v2 c1_i32_327
  let c2_i32_328 : BitVec 32 := 2#32
  let v466 : BitVec 32 := Scalar.addi v465 c2_i32_328
  let c8_i32_329 : BitVec 32 := 8#32
  let v467 : BitVec 32 := Scalar.remsi v466 c8_i32_329
  let v468 : BitVec 32 := Scalar.addi v464 v467
  let c0_i32_905 : BitVec 32 := 0#32
  let c0_i32_906 : BitVec 32 := 0#32
  ![v468.toNat, 0, 0]
def k0_dev50 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_326 : BitVec 32 := 8#32
  let v464 : BitVec 32 := Scalar.muli v386 c8_i32_326
  let c1_i32_327 : BitVec 32 := 1#32
  let v465 : BitVec 32 := Scalar.addi v2 c1_i32_327
  let c2_i32_328 : BitVec 32 := 2#32
  let v466 : BitVec 32 := Scalar.addi v465 c2_i32_328
  let c8_i32_329 : BitVec 32 := 8#32
  let v467 : BitVec 32 := Scalar.remsi v466 c8_i32_329
  let v468 : BitVec 32 := Scalar.addi v464 v467
  let c1_i32_902 : BitVec 32 := 1#32
  let v1204 : BitVec 32 := Scalar.muli v468 c1_i32_902
  let v1205 : BitVec 32 := Scalar.addi c0_i32_903 v1204
  v1205.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_331 : BitVec 32 := 8#32
  let v472 : BitVec 32 := Scalar.muli v386 c8_i32_331
  let c1_i32_332 : BitVec 32 := 1#32
  let v473 : BitVec 32 := Scalar.addi v2 c1_i32_332
  let c3_i32_333 : BitVec 32 := 3#32
  let v474 : BitVec 32 := Scalar.addi v473 c3_i32_333
  let c8_i32_334 : BitVec 32 := 8#32
  let v475 : BitVec 32 := Scalar.remsi v474 c8_i32_334
  let v476 : BitVec 32 := Scalar.addi v472 v475
  let v477 : BitVec 1 := Scalar.cmpi .ne v476 v2
  let v478 : BitVec 32 := Scalar.extui v477
  let c0_i32_335 : BitVec 32 := 0#32
  let v479 : BitVec 1 := Scalar.cmpi .ne v478 c0_i32_335
  v479

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_331 : BitVec 32 := 8#32
  let v472 : BitVec 32 := Scalar.muli v386 c8_i32_331
  let c1_i32_332 : BitVec 32 := 1#32
  let v473 : BitVec 32 := Scalar.addi v2 c1_i32_332
  let c3_i32_333 : BitVec 32 := 3#32
  let v474 : BitVec 32 := Scalar.addi v473 c3_i32_333
  let c8_i32_334 : BitVec 32 := 8#32
  let v475 : BitVec 32 := Scalar.remsi v474 c8_i32_334
  let v476 : BitVec 32 := Scalar.addi v472 v475
  ![v476.toNat]
def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_331 : BitVec 32 := 8#32
  let v472 : BitVec 32 := Scalar.muli v386 c8_i32_331
  let c1_i32_332 : BitVec 32 := 1#32
  let v473 : BitVec 32 := Scalar.addi v2 c1_i32_332
  let c3_i32_333 : BitVec 32 := 3#32
  let v474 : BitVec 32 := Scalar.addi v473 c3_i32_333
  let c8_i32_334 : BitVec 32 := 8#32
  let v475 : BitVec 32 := Scalar.remsi v474 c8_i32_334
  let v476 : BitVec 32 := Scalar.addi v472 v475
  let c0_i32_905 : BitVec 32 := 0#32
  let c0_i32_906 : BitVec 32 := 0#32
  ![v476.toNat, 0, 0]
def k0_dev51 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_331 : BitVec 32 := 8#32
  let v472 : BitVec 32 := Scalar.muli v386 c8_i32_331
  let c1_i32_332 : BitVec 32 := 1#32
  let v473 : BitVec 32 := Scalar.addi v2 c1_i32_332
  let c3_i32_333 : BitVec 32 := 3#32
  let v474 : BitVec 32 := Scalar.addi v473 c3_i32_333
  let c8_i32_334 : BitVec 32 := 8#32
  let v475 : BitVec 32 := Scalar.remsi v474 c8_i32_334
  let v476 : BitVec 32 := Scalar.addi v472 v475
  let c1_i32_902 : BitVec 32 := 1#32
  let v1204 : BitVec 32 := Scalar.muli v476 c1_i32_902
  let v1205 : BitVec 32 := Scalar.addi c0_i32_903 v1204
  v1205.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_336 : BitVec 32 := 8#32
  let v480 : BitVec 32 := Scalar.muli v386 c8_i32_336
  let c1_i32_337 : BitVec 32 := 1#32
  let v481 : BitVec 32 := Scalar.addi v2 c1_i32_337
  let c4_i32_338 : BitVec 32 := 4#32
  let v482 : BitVec 32 := Scalar.addi v481 c4_i32_338
  let c8_i32_339 : BitVec 32 := 8#32
  let v483 : BitVec 32 := Scalar.remsi v482 c8_i32_339
  let v484 : BitVec 32 := Scalar.addi v480 v483
  let v485 : BitVec 1 := Scalar.cmpi .ne v484 v2
  let v486 : BitVec 32 := Scalar.extui v485
  let c0_i32_340 : BitVec 32 := 0#32
  let v487 : BitVec 1 := Scalar.cmpi .ne v486 c0_i32_340
  v487

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_336 : BitVec 32 := 8#32
  let v480 : BitVec 32 := Scalar.muli v386 c8_i32_336
  let c1_i32_337 : BitVec 32 := 1#32
  let v481 : BitVec 32 := Scalar.addi v2 c1_i32_337
  let c4_i32_338 : BitVec 32 := 4#32
  let v482 : BitVec 32 := Scalar.addi v481 c4_i32_338
  let c8_i32_339 : BitVec 32 := 8#32
  let v483 : BitVec 32 := Scalar.remsi v482 c8_i32_339
  let v484 : BitVec 32 := Scalar.addi v480 v483
  ![v484.toNat]
def k0_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_336 : BitVec 32 := 8#32
  let v480 : BitVec 32 := Scalar.muli v386 c8_i32_336
  let c1_i32_337 : BitVec 32 := 1#32
  let v481 : BitVec 32 := Scalar.addi v2 c1_i32_337
  let c4_i32_338 : BitVec 32 := 4#32
  let v482 : BitVec 32 := Scalar.addi v481 c4_i32_338
  let c8_i32_339 : BitVec 32 := 8#32
  let v483 : BitVec 32 := Scalar.remsi v482 c8_i32_339
  let v484 : BitVec 32 := Scalar.addi v480 v483
  let c0_i32_905 : BitVec 32 := 0#32
  let c0_i32_906 : BitVec 32 := 0#32
  ![v484.toNat, 0, 0]
def k0_dev52 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_336 : BitVec 32 := 8#32
  let v480 : BitVec 32 := Scalar.muli v386 c8_i32_336
  let c1_i32_337 : BitVec 32 := 1#32
  let v481 : BitVec 32 := Scalar.addi v2 c1_i32_337
  let c4_i32_338 : BitVec 32 := 4#32
  let v482 : BitVec 32 := Scalar.addi v481 c4_i32_338
  let c8_i32_339 : BitVec 32 := 8#32
  let v483 : BitVec 32 := Scalar.remsi v482 c8_i32_339
  let v484 : BitVec 32 := Scalar.addi v480 v483
  let c1_i32_902 : BitVec 32 := 1#32
  let v1204 : BitVec 32 := Scalar.muli v484 c1_i32_902
  let v1205 : BitVec 32 := Scalar.addi c0_i32_903 v1204
  v1205.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_341 : BitVec 32 := 8#32
  let v488 : BitVec 32 := Scalar.muli v386 c8_i32_341
  let c1_i32_342 : BitVec 32 := 1#32
  let v489 : BitVec 32 := Scalar.addi v2 c1_i32_342
  let c5_i32_343 : BitVec 32 := 5#32
  let v490 : BitVec 32 := Scalar.addi v489 c5_i32_343
  let c8_i32_344 : BitVec 32 := 8#32
  let v491 : BitVec 32 := Scalar.remsi v490 c8_i32_344
  let v492 : BitVec 32 := Scalar.addi v488 v491
  let v493 : BitVec 1 := Scalar.cmpi .ne v492 v2
  let v494 : BitVec 32 := Scalar.extui v493
  let c0_i32_345 : BitVec 32 := 0#32
  let v495 : BitVec 1 := Scalar.cmpi .ne v494 c0_i32_345
  v495

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_341 : BitVec 32 := 8#32
  let v488 : BitVec 32 := Scalar.muli v386 c8_i32_341
  let c1_i32_342 : BitVec 32 := 1#32
  let v489 : BitVec 32 := Scalar.addi v2 c1_i32_342
  let c5_i32_343 : BitVec 32 := 5#32
  let v490 : BitVec 32 := Scalar.addi v489 c5_i32_343
  let c8_i32_344 : BitVec 32 := 8#32
  let v491 : BitVec 32 := Scalar.remsi v490 c8_i32_344
  let v492 : BitVec 32 := Scalar.addi v488 v491
  ![v492.toNat]
def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_341 : BitVec 32 := 8#32
  let v488 : BitVec 32 := Scalar.muli v386 c8_i32_341
  let c1_i32_342 : BitVec 32 := 1#32
  let v489 : BitVec 32 := Scalar.addi v2 c1_i32_342
  let c5_i32_343 : BitVec 32 := 5#32
  let v490 : BitVec 32 := Scalar.addi v489 c5_i32_343
  let c8_i32_344 : BitVec 32 := 8#32
  let v491 : BitVec 32 := Scalar.remsi v490 c8_i32_344
  let v492 : BitVec 32 := Scalar.addi v488 v491
  let c0_i32_905 : BitVec 32 := 0#32
  let c0_i32_906 : BitVec 32 := 0#32
  ![v492.toNat, 0, 0]
def k0_dev53 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_341 : BitVec 32 := 8#32
  let v488 : BitVec 32 := Scalar.muli v386 c8_i32_341
  let c1_i32_342 : BitVec 32 := 1#32
  let v489 : BitVec 32 := Scalar.addi v2 c1_i32_342
  let c5_i32_343 : BitVec 32 := 5#32
  let v490 : BitVec 32 := Scalar.addi v489 c5_i32_343
  let c8_i32_344 : BitVec 32 := 8#32
  let v491 : BitVec 32 := Scalar.remsi v490 c8_i32_344
  let v492 : BitVec 32 := Scalar.addi v488 v491
  let c1_i32_902 : BitVec 32 := 1#32
  let v1204 : BitVec 32 := Scalar.muli v492 c1_i32_902
  let v1205 : BitVec 32 := Scalar.addi c0_i32_903 v1204
  v1205.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_346 : BitVec 32 := 8#32
  let v496 : BitVec 32 := Scalar.muli v386 c8_i32_346
  let c1_i32_347 : BitVec 32 := 1#32
  let v497 : BitVec 32 := Scalar.addi v2 c1_i32_347
  let c6_i32_348 : BitVec 32 := 6#32
  let v498 : BitVec 32 := Scalar.addi v497 c6_i32_348
  let c8_i32_349 : BitVec 32 := 8#32
  let v499 : BitVec 32 := Scalar.remsi v498 c8_i32_349
  let v500 : BitVec 32 := Scalar.addi v496 v499
  let v501 : BitVec 1 := Scalar.cmpi .ne v500 v2
  let v502 : BitVec 32 := Scalar.extui v501
  let c0_i32_350 : BitVec 32 := 0#32
  let v503 : BitVec 1 := Scalar.cmpi .ne v502 c0_i32_350
  v503

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_346 : BitVec 32 := 8#32
  let v496 : BitVec 32 := Scalar.muli v386 c8_i32_346
  let c1_i32_347 : BitVec 32 := 1#32
  let v497 : BitVec 32 := Scalar.addi v2 c1_i32_347
  let c6_i32_348 : BitVec 32 := 6#32
  let v498 : BitVec 32 := Scalar.addi v497 c6_i32_348
  let c8_i32_349 : BitVec 32 := 8#32
  let v499 : BitVec 32 := Scalar.remsi v498 c8_i32_349
  let v500 : BitVec 32 := Scalar.addi v496 v499
  ![v500.toNat]
def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_346 : BitVec 32 := 8#32
  let v496 : BitVec 32 := Scalar.muli v386 c8_i32_346
  let c1_i32_347 : BitVec 32 := 1#32
  let v497 : BitVec 32 := Scalar.addi v2 c1_i32_347
  let c6_i32_348 : BitVec 32 := 6#32
  let v498 : BitVec 32 := Scalar.addi v497 c6_i32_348
  let c8_i32_349 : BitVec 32 := 8#32
  let v499 : BitVec 32 := Scalar.remsi v498 c8_i32_349
  let v500 : BitVec 32 := Scalar.addi v496 v499
  let c0_i32_905 : BitVec 32 := 0#32
  let c0_i32_906 : BitVec 32 := 0#32
  ![v500.toNat, 0, 0]
def k0_dev54 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_346 : BitVec 32 := 8#32
  let v496 : BitVec 32 := Scalar.muli v386 c8_i32_346
  let c1_i32_347 : BitVec 32 := 1#32
  let v497 : BitVec 32 := Scalar.addi v2 c1_i32_347
  let c6_i32_348 : BitVec 32 := 6#32
  let v498 : BitVec 32 := Scalar.addi v497 c6_i32_348
  let c8_i32_349 : BitVec 32 := 8#32
  let v499 : BitVec 32 := Scalar.remsi v498 c8_i32_349
  let v500 : BitVec 32 := Scalar.addi v496 v499
  let c1_i32_902 : BitVec 32 := 1#32
  let v1204 : BitVec 32 := Scalar.muli v500 c1_i32_902
  let v1205 : BitVec 32 := Scalar.addi c0_i32_903 v1204
  v1205.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_351 : BitVec 32 := 8#32
  let v504 : BitVec 32 := Scalar.muli v386 c8_i32_351
  let c1_i32_352 : BitVec 32 := 1#32
  let v505 : BitVec 32 := Scalar.addi v2 c1_i32_352
  let c7_i32_353 : BitVec 32 := 7#32
  let v506 : BitVec 32 := Scalar.addi v505 c7_i32_353
  let c8_i32_354 : BitVec 32 := 8#32
  let v507 : BitVec 32 := Scalar.remsi v506 c8_i32_354
  let v508 : BitVec 32 := Scalar.addi v504 v507
  let v509 : BitVec 1 := Scalar.cmpi .ne v508 v2
  let v510 : BitVec 32 := Scalar.extui v509
  let c0_i32_355 : BitVec 32 := 0#32
  let v511 : BitVec 1 := Scalar.cmpi .ne v510 c0_i32_355
  v511

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_351 : BitVec 32 := 8#32
  let v504 : BitVec 32 := Scalar.muli v386 c8_i32_351
  let c1_i32_352 : BitVec 32 := 1#32
  let v505 : BitVec 32 := Scalar.addi v2 c1_i32_352
  let c7_i32_353 : BitVec 32 := 7#32
  let v506 : BitVec 32 := Scalar.addi v505 c7_i32_353
  let c8_i32_354 : BitVec 32 := 8#32
  let v507 : BitVec 32 := Scalar.remsi v506 c8_i32_354
  let v508 : BitVec 32 := Scalar.addi v504 v507
  ![v508.toNat]
def k0_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_351 : BitVec 32 := 8#32
  let v504 : BitVec 32 := Scalar.muli v386 c8_i32_351
  let c1_i32_352 : BitVec 32 := 1#32
  let v505 : BitVec 32 := Scalar.addi v2 c1_i32_352
  let c7_i32_353 : BitVec 32 := 7#32
  let v506 : BitVec 32 := Scalar.addi v505 c7_i32_353
  let c8_i32_354 : BitVec 32 := 8#32
  let v507 : BitVec 32 := Scalar.remsi v506 c8_i32_354
  let v508 : BitVec 32 := Scalar.addi v504 v507
  let c0_i32_905 : BitVec 32 := 0#32
  let c0_i32_906 : BitVec 32 := 0#32
  ![v508.toNat, 0, 0]
def k0_dev55 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_279 : BitVec 32 := 2#32
  let v385 : BitVec 32 := Scalar.addi v3 c2_i32_279
  let c4_i32_280 : BitVec 32 := 4#32
  let v386 : BitVec 32 := Scalar.remsi v385 c4_i32_280
  let c8_i32_351 : BitVec 32 := 8#32
  let v504 : BitVec 32 := Scalar.muli v386 c8_i32_351
  let c1_i32_352 : BitVec 32 := 1#32
  let v505 : BitVec 32 := Scalar.addi v2 c1_i32_352
  let c7_i32_353 : BitVec 32 := 7#32
  let v506 : BitVec 32 := Scalar.addi v505 c7_i32_353
  let c8_i32_354 : BitVec 32 := 8#32
  let v507 : BitVec 32 := Scalar.remsi v506 c8_i32_354
  let v508 : BitVec 32 := Scalar.addi v504 v507
  let c1_i32_902 : BitVec 32 := 1#32
  let v1204 : BitVec 32 := Scalar.muli v508 c1_i32_902
  let v1205 : BitVec 32 := Scalar.addi c0_i32_903 v1204
  v1205.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_393 : BitVec 32 := 8#32
  let v575 : BitVec 32 := Scalar.muli v513 c8_i32_393
  let c1_i32_394 : BitVec 32 := 1#32
  let v576 : BitVec 32 := Scalar.addi v2 c1_i32_394
  let c0_i32_395 : BitVec 32 := 0#32
  let v577 : BitVec 32 := Scalar.addi v576 c0_i32_395
  let c8_i32_396 : BitVec 32 := 8#32
  let v578 : BitVec 32 := Scalar.remsi v577 c8_i32_396
  let v579 : BitVec 32 := Scalar.addi v575 v578
  let v580 : BitVec 1 := Scalar.cmpi .ne v579 v2
  let v581 : BitVec 32 := Scalar.extui v580
  let c0_i32_397 : BitVec 32 := 0#32
  let v582 : BitVec 1 := Scalar.cmpi .ne v581 c0_i32_397
  v582

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_393 : BitVec 32 := 8#32
  let v575 : BitVec 32 := Scalar.muli v513 c8_i32_393
  let c1_i32_394 : BitVec 32 := 1#32
  let v576 : BitVec 32 := Scalar.addi v2 c1_i32_394
  let c0_i32_395 : BitVec 32 := 0#32
  let v577 : BitVec 32 := Scalar.addi v576 c0_i32_395
  let c8_i32_396 : BitVec 32 := 8#32
  let v578 : BitVec 32 := Scalar.remsi v577 c8_i32_396
  let v579 : BitVec 32 := Scalar.addi v575 v578
  ![v579.toNat]
def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_393 : BitVec 32 := 8#32
  let v575 : BitVec 32 := Scalar.muli v513 c8_i32_393
  let c1_i32_394 : BitVec 32 := 1#32
  let v576 : BitVec 32 := Scalar.addi v2 c1_i32_394
  let c0_i32_395 : BitVec 32 := 0#32
  let v577 : BitVec 32 := Scalar.addi v576 c0_i32_395
  let c8_i32_396 : BitVec 32 := 8#32
  let v578 : BitVec 32 := Scalar.remsi v577 c8_i32_396
  let v579 : BitVec 32 := Scalar.addi v575 v578
  let c0_i32_905 : BitVec 32 := 0#32
  let c0_i32_906 : BitVec 32 := 0#32
  ![v579.toNat, 0, 0]
def k0_dev56 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_393 : BitVec 32 := 8#32
  let v575 : BitVec 32 := Scalar.muli v513 c8_i32_393
  let c1_i32_394 : BitVec 32 := 1#32
  let v576 : BitVec 32 := Scalar.addi v2 c1_i32_394
  let c0_i32_395 : BitVec 32 := 0#32
  let v577 : BitVec 32 := Scalar.addi v576 c0_i32_395
  let c8_i32_396 : BitVec 32 := 8#32
  let v578 : BitVec 32 := Scalar.remsi v577 c8_i32_396
  let v579 : BitVec 32 := Scalar.addi v575 v578
  let c1_i32_902 : BitVec 32 := 1#32
  let v1204 : BitVec 32 := Scalar.muli v579 c1_i32_902
  let v1205 : BitVec 32 := Scalar.addi c0_i32_903 v1204
  v1205.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_398 : BitVec 32 := 8#32
  let v583 : BitVec 32 := Scalar.muli v513 c8_i32_398
  let c1_i32_399 : BitVec 32 := 1#32
  let v584 : BitVec 32 := Scalar.addi v2 c1_i32_399
  let c1_i32_400 : BitVec 32 := 1#32
  let v585 : BitVec 32 := Scalar.addi v584 c1_i32_400
  let c8_i32_401 : BitVec 32 := 8#32
  let v586 : BitVec 32 := Scalar.remsi v585 c8_i32_401
  let v587 : BitVec 32 := Scalar.addi v583 v586
  let v588 : BitVec 1 := Scalar.cmpi .ne v587 v2
  let v589 : BitVec 32 := Scalar.extui v588
  let c0_i32_402 : BitVec 32 := 0#32
  let v590 : BitVec 1 := Scalar.cmpi .ne v589 c0_i32_402
  v590

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_398 : BitVec 32 := 8#32
  let v583 : BitVec 32 := Scalar.muli v513 c8_i32_398
  let c1_i32_399 : BitVec 32 := 1#32
  let v584 : BitVec 32 := Scalar.addi v2 c1_i32_399
  let c1_i32_400 : BitVec 32 := 1#32
  let v585 : BitVec 32 := Scalar.addi v584 c1_i32_400
  let c8_i32_401 : BitVec 32 := 8#32
  let v586 : BitVec 32 := Scalar.remsi v585 c8_i32_401
  let v587 : BitVec 32 := Scalar.addi v583 v586
  ![v587.toNat]
def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_398 : BitVec 32 := 8#32
  let v583 : BitVec 32 := Scalar.muli v513 c8_i32_398
  let c1_i32_399 : BitVec 32 := 1#32
  let v584 : BitVec 32 := Scalar.addi v2 c1_i32_399
  let c1_i32_400 : BitVec 32 := 1#32
  let v585 : BitVec 32 := Scalar.addi v584 c1_i32_400
  let c8_i32_401 : BitVec 32 := 8#32
  let v586 : BitVec 32 := Scalar.remsi v585 c8_i32_401
  let v587 : BitVec 32 := Scalar.addi v583 v586
  let c0_i32_905 : BitVec 32 := 0#32
  let c0_i32_906 : BitVec 32 := 0#32
  ![v587.toNat, 0, 0]
def k0_dev57 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_398 : BitVec 32 := 8#32
  let v583 : BitVec 32 := Scalar.muli v513 c8_i32_398
  let c1_i32_399 : BitVec 32 := 1#32
  let v584 : BitVec 32 := Scalar.addi v2 c1_i32_399
  let c1_i32_400 : BitVec 32 := 1#32
  let v585 : BitVec 32 := Scalar.addi v584 c1_i32_400
  let c8_i32_401 : BitVec 32 := 8#32
  let v586 : BitVec 32 := Scalar.remsi v585 c8_i32_401
  let v587 : BitVec 32 := Scalar.addi v583 v586
  let c1_i32_902 : BitVec 32 := 1#32
  let v1204 : BitVec 32 := Scalar.muli v587 c1_i32_902
  let v1205 : BitVec 32 := Scalar.addi c0_i32_903 v1204
  v1205.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_403 : BitVec 32 := 8#32
  let v591 : BitVec 32 := Scalar.muli v513 c8_i32_403
  let c1_i32_404 : BitVec 32 := 1#32
  let v592 : BitVec 32 := Scalar.addi v2 c1_i32_404
  let c2_i32_405 : BitVec 32 := 2#32
  let v593 : BitVec 32 := Scalar.addi v592 c2_i32_405
  let c8_i32_406 : BitVec 32 := 8#32
  let v594 : BitVec 32 := Scalar.remsi v593 c8_i32_406
  let v595 : BitVec 32 := Scalar.addi v591 v594
  let v596 : BitVec 1 := Scalar.cmpi .ne v595 v2
  let v597 : BitVec 32 := Scalar.extui v596
  let c0_i32_407 : BitVec 32 := 0#32
  let v598 : BitVec 1 := Scalar.cmpi .ne v597 c0_i32_407
  v598

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_403 : BitVec 32 := 8#32
  let v591 : BitVec 32 := Scalar.muli v513 c8_i32_403
  let c1_i32_404 : BitVec 32 := 1#32
  let v592 : BitVec 32 := Scalar.addi v2 c1_i32_404
  let c2_i32_405 : BitVec 32 := 2#32
  let v593 : BitVec 32 := Scalar.addi v592 c2_i32_405
  let c8_i32_406 : BitVec 32 := 8#32
  let v594 : BitVec 32 := Scalar.remsi v593 c8_i32_406
  let v595 : BitVec 32 := Scalar.addi v591 v594
  ![v595.toNat]
def k0_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_403 : BitVec 32 := 8#32
  let v591 : BitVec 32 := Scalar.muli v513 c8_i32_403
  let c1_i32_404 : BitVec 32 := 1#32
  let v592 : BitVec 32 := Scalar.addi v2 c1_i32_404
  let c2_i32_405 : BitVec 32 := 2#32
  let v593 : BitVec 32 := Scalar.addi v592 c2_i32_405
  let c8_i32_406 : BitVec 32 := 8#32
  let v594 : BitVec 32 := Scalar.remsi v593 c8_i32_406
  let v595 : BitVec 32 := Scalar.addi v591 v594
  let c0_i32_905 : BitVec 32 := 0#32
  let c0_i32_906 : BitVec 32 := 0#32
  ![v595.toNat, 0, 0]
def k0_dev58 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_403 : BitVec 32 := 8#32
  let v591 : BitVec 32 := Scalar.muli v513 c8_i32_403
  let c1_i32_404 : BitVec 32 := 1#32
  let v592 : BitVec 32 := Scalar.addi v2 c1_i32_404
  let c2_i32_405 : BitVec 32 := 2#32
  let v593 : BitVec 32 := Scalar.addi v592 c2_i32_405
  let c8_i32_406 : BitVec 32 := 8#32
  let v594 : BitVec 32 := Scalar.remsi v593 c8_i32_406
  let v595 : BitVec 32 := Scalar.addi v591 v594
  let c1_i32_902 : BitVec 32 := 1#32
  let v1204 : BitVec 32 := Scalar.muli v595 c1_i32_902
  let v1205 : BitVec 32 := Scalar.addi c0_i32_903 v1204
  v1205.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_408 : BitVec 32 := 8#32
  let v599 : BitVec 32 := Scalar.muli v513 c8_i32_408
  let c1_i32_409 : BitVec 32 := 1#32
  let v600 : BitVec 32 := Scalar.addi v2 c1_i32_409
  let c3_i32_410 : BitVec 32 := 3#32
  let v601 : BitVec 32 := Scalar.addi v600 c3_i32_410
  let c8_i32_411 : BitVec 32 := 8#32
  let v602 : BitVec 32 := Scalar.remsi v601 c8_i32_411
  let v603 : BitVec 32 := Scalar.addi v599 v602
  let v604 : BitVec 1 := Scalar.cmpi .ne v603 v2
  let v605 : BitVec 32 := Scalar.extui v604
  let c0_i32_412 : BitVec 32 := 0#32
  let v606 : BitVec 1 := Scalar.cmpi .ne v605 c0_i32_412
  v606

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_408 : BitVec 32 := 8#32
  let v599 : BitVec 32 := Scalar.muli v513 c8_i32_408
  let c1_i32_409 : BitVec 32 := 1#32
  let v600 : BitVec 32 := Scalar.addi v2 c1_i32_409
  let c3_i32_410 : BitVec 32 := 3#32
  let v601 : BitVec 32 := Scalar.addi v600 c3_i32_410
  let c8_i32_411 : BitVec 32 := 8#32
  let v602 : BitVec 32 := Scalar.remsi v601 c8_i32_411
  let v603 : BitVec 32 := Scalar.addi v599 v602
  ![v603.toNat]
def k0_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_408 : BitVec 32 := 8#32
  let v599 : BitVec 32 := Scalar.muli v513 c8_i32_408
  let c1_i32_409 : BitVec 32 := 1#32
  let v600 : BitVec 32 := Scalar.addi v2 c1_i32_409
  let c3_i32_410 : BitVec 32 := 3#32
  let v601 : BitVec 32 := Scalar.addi v600 c3_i32_410
  let c8_i32_411 : BitVec 32 := 8#32
  let v602 : BitVec 32 := Scalar.remsi v601 c8_i32_411
  let v603 : BitVec 32 := Scalar.addi v599 v602
  let c0_i32_905 : BitVec 32 := 0#32
  let c0_i32_906 : BitVec 32 := 0#32
  ![v603.toNat, 0, 0]
def k0_dev59 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_408 : BitVec 32 := 8#32
  let v599 : BitVec 32 := Scalar.muli v513 c8_i32_408
  let c1_i32_409 : BitVec 32 := 1#32
  let v600 : BitVec 32 := Scalar.addi v2 c1_i32_409
  let c3_i32_410 : BitVec 32 := 3#32
  let v601 : BitVec 32 := Scalar.addi v600 c3_i32_410
  let c8_i32_411 : BitVec 32 := 8#32
  let v602 : BitVec 32 := Scalar.remsi v601 c8_i32_411
  let v603 : BitVec 32 := Scalar.addi v599 v602
  let c1_i32_902 : BitVec 32 := 1#32
  let v1204 : BitVec 32 := Scalar.muli v603 c1_i32_902
  let v1205 : BitVec 32 := Scalar.addi c0_i32_903 v1204
  v1205.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_413 : BitVec 32 := 8#32
  let v607 : BitVec 32 := Scalar.muli v513 c8_i32_413
  let c1_i32_414 : BitVec 32 := 1#32
  let v608 : BitVec 32 := Scalar.addi v2 c1_i32_414
  let c4_i32_415 : BitVec 32 := 4#32
  let v609 : BitVec 32 := Scalar.addi v608 c4_i32_415
  let c8_i32_416 : BitVec 32 := 8#32
  let v610 : BitVec 32 := Scalar.remsi v609 c8_i32_416
  let v611 : BitVec 32 := Scalar.addi v607 v610
  let v612 : BitVec 1 := Scalar.cmpi .ne v611 v2
  let v613 : BitVec 32 := Scalar.extui v612
  let c0_i32_417 : BitVec 32 := 0#32
  let v614 : BitVec 1 := Scalar.cmpi .ne v613 c0_i32_417
  v614

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_413 : BitVec 32 := 8#32
  let v607 : BitVec 32 := Scalar.muli v513 c8_i32_413
  let c1_i32_414 : BitVec 32 := 1#32
  let v608 : BitVec 32 := Scalar.addi v2 c1_i32_414
  let c4_i32_415 : BitVec 32 := 4#32
  let v609 : BitVec 32 := Scalar.addi v608 c4_i32_415
  let c8_i32_416 : BitVec 32 := 8#32
  let v610 : BitVec 32 := Scalar.remsi v609 c8_i32_416
  let v611 : BitVec 32 := Scalar.addi v607 v610
  ![v611.toNat]
def k0_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_413 : BitVec 32 := 8#32
  let v607 : BitVec 32 := Scalar.muli v513 c8_i32_413
  let c1_i32_414 : BitVec 32 := 1#32
  let v608 : BitVec 32 := Scalar.addi v2 c1_i32_414
  let c4_i32_415 : BitVec 32 := 4#32
  let v609 : BitVec 32 := Scalar.addi v608 c4_i32_415
  let c8_i32_416 : BitVec 32 := 8#32
  let v610 : BitVec 32 := Scalar.remsi v609 c8_i32_416
  let v611 : BitVec 32 := Scalar.addi v607 v610
  let c0_i32_905 : BitVec 32 := 0#32
  let c0_i32_906 : BitVec 32 := 0#32
  ![v611.toNat, 0, 0]
def k0_dev60 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_413 : BitVec 32 := 8#32
  let v607 : BitVec 32 := Scalar.muli v513 c8_i32_413
  let c1_i32_414 : BitVec 32 := 1#32
  let v608 : BitVec 32 := Scalar.addi v2 c1_i32_414
  let c4_i32_415 : BitVec 32 := 4#32
  let v609 : BitVec 32 := Scalar.addi v608 c4_i32_415
  let c8_i32_416 : BitVec 32 := 8#32
  let v610 : BitVec 32 := Scalar.remsi v609 c8_i32_416
  let v611 : BitVec 32 := Scalar.addi v607 v610
  let c1_i32_902 : BitVec 32 := 1#32
  let v1204 : BitVec 32 := Scalar.muli v611 c1_i32_902
  let v1205 : BitVec 32 := Scalar.addi c0_i32_903 v1204
  v1205.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_418 : BitVec 32 := 8#32
  let v615 : BitVec 32 := Scalar.muli v513 c8_i32_418
  let c1_i32_419 : BitVec 32 := 1#32
  let v616 : BitVec 32 := Scalar.addi v2 c1_i32_419
  let c5_i32_420 : BitVec 32 := 5#32
  let v617 : BitVec 32 := Scalar.addi v616 c5_i32_420
  let c8_i32_421 : BitVec 32 := 8#32
  let v618 : BitVec 32 := Scalar.remsi v617 c8_i32_421
  let v619 : BitVec 32 := Scalar.addi v615 v618
  let v620 : BitVec 1 := Scalar.cmpi .ne v619 v2
  let v621 : BitVec 32 := Scalar.extui v620
  let c0_i32_422 : BitVec 32 := 0#32
  let v622 : BitVec 1 := Scalar.cmpi .ne v621 c0_i32_422
  v622

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_418 : BitVec 32 := 8#32
  let v615 : BitVec 32 := Scalar.muli v513 c8_i32_418
  let c1_i32_419 : BitVec 32 := 1#32
  let v616 : BitVec 32 := Scalar.addi v2 c1_i32_419
  let c5_i32_420 : BitVec 32 := 5#32
  let v617 : BitVec 32 := Scalar.addi v616 c5_i32_420
  let c8_i32_421 : BitVec 32 := 8#32
  let v618 : BitVec 32 := Scalar.remsi v617 c8_i32_421
  let v619 : BitVec 32 := Scalar.addi v615 v618
  ![v619.toNat]
def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_418 : BitVec 32 := 8#32
  let v615 : BitVec 32 := Scalar.muli v513 c8_i32_418
  let c1_i32_419 : BitVec 32 := 1#32
  let v616 : BitVec 32 := Scalar.addi v2 c1_i32_419
  let c5_i32_420 : BitVec 32 := 5#32
  let v617 : BitVec 32 := Scalar.addi v616 c5_i32_420
  let c8_i32_421 : BitVec 32 := 8#32
  let v618 : BitVec 32 := Scalar.remsi v617 c8_i32_421
  let v619 : BitVec 32 := Scalar.addi v615 v618
  let c0_i32_905 : BitVec 32 := 0#32
  let c0_i32_906 : BitVec 32 := 0#32
  ![v619.toNat, 0, 0]
def k0_dev61 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_418 : BitVec 32 := 8#32
  let v615 : BitVec 32 := Scalar.muli v513 c8_i32_418
  let c1_i32_419 : BitVec 32 := 1#32
  let v616 : BitVec 32 := Scalar.addi v2 c1_i32_419
  let c5_i32_420 : BitVec 32 := 5#32
  let v617 : BitVec 32 := Scalar.addi v616 c5_i32_420
  let c8_i32_421 : BitVec 32 := 8#32
  let v618 : BitVec 32 := Scalar.remsi v617 c8_i32_421
  let v619 : BitVec 32 := Scalar.addi v615 v618
  let c1_i32_902 : BitVec 32 := 1#32
  let v1204 : BitVec 32 := Scalar.muli v619 c1_i32_902
  let v1205 : BitVec 32 := Scalar.addi c0_i32_903 v1204
  v1205.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_423 : BitVec 32 := 8#32
  let v623 : BitVec 32 := Scalar.muli v513 c8_i32_423
  let c1_i32_424 : BitVec 32 := 1#32
  let v624 : BitVec 32 := Scalar.addi v2 c1_i32_424
  let c6_i32_425 : BitVec 32 := 6#32
  let v625 : BitVec 32 := Scalar.addi v624 c6_i32_425
  let c8_i32_426 : BitVec 32 := 8#32
  let v626 : BitVec 32 := Scalar.remsi v625 c8_i32_426
  let v627 : BitVec 32 := Scalar.addi v623 v626
  let v628 : BitVec 1 := Scalar.cmpi .ne v627 v2
  let v629 : BitVec 32 := Scalar.extui v628
  let c0_i32_427 : BitVec 32 := 0#32
  let v630 : BitVec 1 := Scalar.cmpi .ne v629 c0_i32_427
  v630

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_423 : BitVec 32 := 8#32
  let v623 : BitVec 32 := Scalar.muli v513 c8_i32_423
  let c1_i32_424 : BitVec 32 := 1#32
  let v624 : BitVec 32 := Scalar.addi v2 c1_i32_424
  let c6_i32_425 : BitVec 32 := 6#32
  let v625 : BitVec 32 := Scalar.addi v624 c6_i32_425
  let c8_i32_426 : BitVec 32 := 8#32
  let v626 : BitVec 32 := Scalar.remsi v625 c8_i32_426
  let v627 : BitVec 32 := Scalar.addi v623 v626
  ![v627.toNat]
def k0_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_423 : BitVec 32 := 8#32
  let v623 : BitVec 32 := Scalar.muli v513 c8_i32_423
  let c1_i32_424 : BitVec 32 := 1#32
  let v624 : BitVec 32 := Scalar.addi v2 c1_i32_424
  let c6_i32_425 : BitVec 32 := 6#32
  let v625 : BitVec 32 := Scalar.addi v624 c6_i32_425
  let c8_i32_426 : BitVec 32 := 8#32
  let v626 : BitVec 32 := Scalar.remsi v625 c8_i32_426
  let v627 : BitVec 32 := Scalar.addi v623 v626
  let c0_i32_905 : BitVec 32 := 0#32
  let c0_i32_906 : BitVec 32 := 0#32
  ![v627.toNat, 0, 0]
def k0_dev62 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_423 : BitVec 32 := 8#32
  let v623 : BitVec 32 := Scalar.muli v513 c8_i32_423
  let c1_i32_424 : BitVec 32 := 1#32
  let v624 : BitVec 32 := Scalar.addi v2 c1_i32_424
  let c6_i32_425 : BitVec 32 := 6#32
  let v625 : BitVec 32 := Scalar.addi v624 c6_i32_425
  let c8_i32_426 : BitVec 32 := 8#32
  let v626 : BitVec 32 := Scalar.remsi v625 c8_i32_426
  let v627 : BitVec 32 := Scalar.addi v623 v626
  let c1_i32_902 : BitVec 32 := 1#32
  let v1204 : BitVec 32 := Scalar.muli v627 c1_i32_902
  let v1205 : BitVec 32 := Scalar.addi c0_i32_903 v1204
  v1205.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_428 : BitVec 32 := 8#32
  let v631 : BitVec 32 := Scalar.muli v513 c8_i32_428
  let c1_i32_429 : BitVec 32 := 1#32
  let v632 : BitVec 32 := Scalar.addi v2 c1_i32_429
  let c7_i32_430 : BitVec 32 := 7#32
  let v633 : BitVec 32 := Scalar.addi v632 c7_i32_430
  let c8_i32_431 : BitVec 32 := 8#32
  let v634 : BitVec 32 := Scalar.remsi v633 c8_i32_431
  let v635 : BitVec 32 := Scalar.addi v631 v634
  let v636 : BitVec 1 := Scalar.cmpi .ne v635 v2
  let v637 : BitVec 32 := Scalar.extui v636
  let c0_i32_432 : BitVec 32 := 0#32
  let v638 : BitVec 1 := Scalar.cmpi .ne v637 c0_i32_432
  v638

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_428 : BitVec 32 := 8#32
  let v631 : BitVec 32 := Scalar.muli v513 c8_i32_428
  let c1_i32_429 : BitVec 32 := 1#32
  let v632 : BitVec 32 := Scalar.addi v2 c1_i32_429
  let c7_i32_430 : BitVec 32 := 7#32
  let v633 : BitVec 32 := Scalar.addi v632 c7_i32_430
  let c8_i32_431 : BitVec 32 := 8#32
  let v634 : BitVec 32 := Scalar.remsi v633 c8_i32_431
  let v635 : BitVec 32 := Scalar.addi v631 v634
  ![v635.toNat]
def k0_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_901 : BitVec 32 := 64#32
  let v1203 : BitVec 32 := Scalar.muli v2 c64_i32_901
  let c0_i32_904 : BitVec 32 := 0#32
  ![v1203.toNat, 0]
def k0_off130 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_428 : BitVec 32 := 8#32
  let v631 : BitVec 32 := Scalar.muli v513 c8_i32_428
  let c1_i32_429 : BitVec 32 := 1#32
  let v632 : BitVec 32 := Scalar.addi v2 c1_i32_429
  let c7_i32_430 : BitVec 32 := 7#32
  let v633 : BitVec 32 := Scalar.addi v632 c7_i32_430
  let c8_i32_431 : BitVec 32 := 8#32
  let v634 : BitVec 32 := Scalar.remsi v633 c8_i32_431
  let v635 : BitVec 32 := Scalar.addi v631 v634
  let c0_i32_905 : BitVec 32 := 0#32
  let c0_i32_906 : BitVec 32 := 0#32
  ![v635.toNat, 0, 0]
def k0_dev63 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_356 : BitVec 32 := 3#32
  let v512 : BitVec 32 := Scalar.addi v3 c3_i32_356
  let c4_i32_357 : BitVec 32 := 4#32
  let v513 : BitVec 32 := Scalar.remsi v512 c4_i32_357
  let c8_i32_428 : BitVec 32 := 8#32
  let v631 : BitVec 32 := Scalar.muli v513 c8_i32_428
  let c1_i32_429 : BitVec 32 := 1#32
  let v632 : BitVec 32 := Scalar.addi v2 c1_i32_429
  let c7_i32_430 : BitVec 32 := 7#32
  let v633 : BitVec 32 := Scalar.addi v632 c7_i32_430
  let c8_i32_431 : BitVec 32 := 8#32
  let v634 : BitVec 32 := Scalar.remsi v633 c8_i32_431
  let v635 : BitVec 32 := Scalar.addi v631 v634
  let c1_i32_902 : BitVec 32 := 1#32
  let v1204 : BitVec 32 := Scalar.muli v635 c1_i32_902
  let v1205 : BitVec 32 := Scalar.addi c0_i32_903 v1204
  v1205.toNat
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v639 : Index := Scalar.indexCast v2
  let c0_433 : Index := 0#32
  let c0_434 : Index := 0#32
  ![v639.toNat, 0, 0]
def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v642 : BitVec 32 := Scalar.muli v2 c64_i32
  let v643 : Index := Scalar.indexCast v642
  let c0_435 : Index := 0#32
  ![v643.toNat, 0]
def k0_off133 (d0 : Dev nD) (c1_i32_436 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v645 : BitVec 32 := Scalar.addi v2 c1_i32_436
  let c32_i32_437 : BitVec 32 := 32#32
  let v646 : BitVec 32 := Scalar.remsi v645 c32_i32_437
  ![v646.toNat]
def k0_off134 (d0 : Dev nD) (c1_i32_436 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v645 : BitVec 32 := Scalar.addi v2 c1_i32_436
  let c32_i32_437 : BitVec 32 := 32#32
  let v646 : BitVec 32 := Scalar.remsi v645 c32_i32_437
  let c64_i32_438 : BitVec 32 := 64#32
  let v647 : BitVec 32 := Scalar.muli v646 c64_i32_438
  let c0_i32_441 : BitVec 32 := 0#32
  ![v647.toNat, 0]
def k0_off135 (d0 : Dev nD) (c1_i32_436 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v645 : BitVec 32 := Scalar.addi v2 c1_i32_436
  let c32_i32_437 : BitVec 32 := 32#32
  let v646 : BitVec 32 := Scalar.remsi v645 c32_i32_437
  let c0_i32_442 : BitVec 32 := 0#32
  let c0_i32_443 : BitVec 32 := 0#32
  ![v646.toNat, 0, 0]
def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32_686 : BitVec 32 := 64#32
  let v957 : BitVec 32 := Scalar.muli v2 c64_i32_686
  let c0_i32_690 : BitVec 32 := 0#32
  ![v957.toNat, 0]
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
# The all-to-all over 32 devices: semaphores, contents and schedule

Each device multiplies its block of rows of `x` with the whole of `w`, 64 columns at a time, into the 32 slots of a
communication buffer, and sends slot `j` to device `j`, where it becomes the block of rows of the result named after
the sender. This file says which semaphore serves which copy, what each region of memory holds, and what each
semaphore hands over when it is waited for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueIdxCore
public import Idealize.ShloMosaic.Lib.ValueLayout
public import Idealize.ShloMosaic.Lib.Ring
public import Idealize.ShloMosaic.Lib.Tactic

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange: one family of cells, a duty named by the device that discharges it. -/
abbrev UX : Type := URounds (GSem nD τ sig) (Dev nD)
/-- The ghost state of the whole program: the pipeline's and the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Memrefs -/

abbrev xM : Memref sig .tc .vmem S64x2048 .f32 := Memref.whole cc0_stg0_0
abbrev wM : Memref sig .tc .vmem S2048x2048 .f32 := Memref.whole cc0_stg1_0
abbrev oM : Memref sig .tc .vmem S2048x64 .f32 := Memref.whole cc0_stg2_0
abbrev cM : Memref sig .tc .vmem S32x64x64 .f32 := Memref.whole cc0_scratch0

/-! ## Semaphores -/

/-- The barrier semaphore, which every other device signals once. -/
abbrev barS : Sem sig := (SemArray.scalar (sig.barrier 0 rfl) : Sems sig S_).sem
/-- The semaphore a device's own copy towards device `j` completes on at the sender. -/
def sendS (j : Dev nD) : DmaSem sig := ⟨3 + j.val, by have : j.val < 32 := j.isLt; show 3 + j.val < 67; omega⟩
/-- The semaphore the copy that device `s` sends completes on at the receiver. -/
def recvS (s : Dev nD) : DmaSem sig := ⟨35 + s.val, by have : s.val < 32 := s.isLt; show 35 + s.val < 67; omega⟩

/-- A device's semaphores of the exchange: the barrier (`none`), the send semaphore of each device (`(false, j)`), the
    receive semaphore of each device (`(true, s)`). -/
abbrev CK : Type := Option (Bool × Dev nD)

/-- The scoped ones: the send and the receive semaphores. -/
def osem : Bool × Dev nD → SemLoc sig
  | (false, j) => .dma (sendS j)
  | (true, s) => .dma (recvS s)

def csem : CK → SemLoc sig
  | none => .reg barS
  | some k => osem k

/-- Which of the exchange's semaphores a DMA semaphore is, -/
def dmaKind (q : DmaSem sig) : Option CK :=
  if h : 35 ≤ q.val then some (some (true, ⟨q.val - 35, by have : q.val < 67 := q.isLt; show q.val - 35 < 32; omega⟩))
  else if h' : 3 ≤ q.val then some (some (false, ⟨q.val - 3, by show q.val - 3 < 32; omega⟩))
  else none

/-- and which a semaphore is. -/
def kindOf : SemLoc sig → Option CK
  | .reg _ => some none
  | .dma q => dmaKind q

theorem kindOf_csem (k : CK) : kindOf (csem k) = some k := by
  rcases k with _ | ⟨_ | _, j⟩
  · rfl
  · have hj : j.val < 32 := j.isLt
    have h1 : ¬ 35 ≤ (sendS j).val := by show ¬ 35 ≤ 3 + j.val; omega
    have h2 : 3 ≤ (sendS j).val := by show 3 ≤ 3 + j.val; omega
    show dmaKind (sendS j) = _
    unfold dmaKind
    rw [dif_neg h1, dif_pos h2]
    congr 3
    exact Fin.ext (by show 3 + j.val - 3 = j.val; omega)
  · have h1 : 35 ≤ (recvS j).val := by show 35 ≤ 35 + j.val; omega
    show dmaKind (recvS j) = _
    unfold dmaKind
    rw [dif_pos h1]
    congr 3
    exact Fin.ext (by show 35 + j.val - 35 = j.val; omega)

theorem csem_injective : Function.Injective csem := fun a b h => by
  have := congrArg kindOf h
  rw [kindOf_csem, kindOf_csem] at this
  exact Option.some.inj this

/-- Device `c`'s cell of kind `k`. -/
def kcell (ck : Dev nD × CK) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

abbrev barCell (c : Dev nD) : GSem nD τ sig := kcell (c, none)
abbrev sendCell (c j : Dev nD) : GSem nD τ sig := kcell (c, some (false, j))
abbrev recvCell (c s : Dev nD) : GSem nD τ sig := kcell (c, some (true, s))

/-! ## Regions -/

/-- Slot `j` of the communication buffer. -/
def slotS (j : Dev nD) : Finset S32x64x64.Idx := Finset.univ.filter fun i => (i 0).val = j.val
/-- The rows of the result that device `s` computes. -/
def rowS (s : Dev nD) : Finset S2048x64.Idx := Finset.univ.filter fun i => (i 0).val / 64 = s.val

theorem mem_slotS {j : Dev nD} {i : S32x64x64.Idx} : i ∈ slotS j ↔ (i 0).val = j.val := by
  unfold slotS; rw [Finset.mem_filter]; exact ⟨fun h => h.2, fun h => ⟨Finset.mem_univ _, h⟩⟩
theorem mem_rowS {s : Dev nD} {i : S2048x64.Idx} : i ∈ rowS s ↔ (i 0).val / 64 = s.val := by
  unfold rowS; rw [Finset.mem_filter]; exact ⟨fun h => h.2, fun h => ⟨Finset.mem_univ _, h⟩⟩

theorem slotS_disjoint (j j' : Dev nD) (h : j ≠ j') : Disjoint (slotS j) (slotS j') :=
  Finset.disjoint_left.mpr fun i hi hi' => h (Fin.ext ((mem_slotS.mp hi).symm.trans (mem_slotS.mp hi')))
theorem rowS_disjoint (s s' : Dev nD) (h : s ≠ s') : Disjoint (rowS s) (rowS s') :=
  Finset.disjoint_left.mpr fun i hi hi' => h (Fin.ext ((mem_rowS.mp hi).symm.trans (mem_rowS.mp hi')))
theorem slotS_cover : (Finset.univ : Finset (Dev nD)).biUnion slotS = Finset.univ :=
  Finset.eq_univ_iff_forall.mpr fun i => Finset.mem_biUnion.mpr ⟨⟨(i 0).val, (i 0).isLt⟩, Finset.mem_univ _, mem_slotS.mpr rfl⟩
theorem rowS_cover : (Finset.univ : Finset (Dev nD)).biUnion rowS = Finset.univ :=
  Finset.eq_univ_iff_forall.mpr fun i =>
    Finset.mem_biUnion.mpr ⟨⟨(i 0).val / 64, by have : (i 0).val < 2048 := (i 0).isLt; show (i 0).val / 64 < 32; omega⟩,
      Finset.mem_univ _, mem_rowS.mpr rfl⟩

/-! ## Contents -/

/-- Device `c`'s block of `x`, and its copy of `w`, as staged. -/
def xst (c : Dev nD) : (cc0_stg0_0 : Ref sig .tc).ty.Contents (Elt F) :=
  (win0_0.blk (0 : Fin 1)).view.read (Elt F) ((s₀ m ρ).mem ((c : Thread nD τ).loc main_arg0))
def wst (c : Dev nD) : (cc0_stg1_0 : Ref sig .tc).ty.Contents (Elt F) :=
  (win0_1.blk (0 : Fin 1)).view.read (Elt F) ((s₀ m ρ).mem ((c : Thread nD τ).loc main_arg1))

/-- The `b`-th block of 512 columns of a matrix of 2048. -/
def colBlk (w : Vec F S2048x2048 .f32) (b : Fin 4) : Vec F S2048x512 .f32 :=
  fun i => w (ix2 (n0 := 2048) (n1 := 2048) (i 0) ⟨512 * b.val + (i 1).val, by
    have h1 : (i 1).val < 512 := (i 1).isLt
    have := b.isLt; omega⟩)

/-- The product of device `c`'s rows with the `b`-th block of columns. -/
def prodV (c : Dev nD) (b : Fin 4) : Vec F S64x512 .f32 := k0_pay2 (xst m ρ c) (colBlk (wst m ρ c) b)

/-- Entry `(a, n)` of device `c`'s rows of the product, `n` among all 2048 columns. -/
def prodAt (c : Dev nD) (a : Fin 64) (n : Fin 2048) : Elt F .f32 :=
  prodV m ρ c ⟨n.val / 512, by have := n.isLt; omega⟩ (ix2 (n0 := 64) (n1 := 512) a ⟨n.val % 512, Nat.mod_lt _ (by decide)⟩)

/-- What device `c`'s communication buffer holds once filled: slot `j` its rows at the 64 columns of device `j`. -/
def commV (c : Dev nD) : Buf (Elt F) ((c : Thread nD τ).loc cc0_scratch0) := fun (i : S32x64x64.Idx) =>
  prodAt m ρ c (i 1) ⟨64 * (i 0).val + (i 2).val, by
    have h0 : (i 0).val < 32 := (i 0).isLt
    have h2 : (i 2).val < 64 := (i 2).isLt
    omega⟩

/-- What device `d`'s result holds at the end: the rows of every device at the 64 columns of device `d`. -/
def outV (d : Dev nD) : Buf (Elt F) ((d : Thread nD τ).loc cc0_stg2_0) := fun (i : S2048x64.Idx) =>
  prodAt m ρ ⟨(i 0).val / 64, by have h0 : (i 0).val < 2048 := (i 0).isLt; show (i 0).val / 64 < 32; omega⟩
    ⟨(i 0).val % 64, Nat.mod_lt _ (by decide)⟩
    ⟨64 * d.val + (i 1).val, by
      have h0 : d.val < 32 := d.isLt
      have h2 : (i 1).val < 64 := (i 1).isLt
      omega⟩

/-- Slot `j` of device `c` at contents `f`, the block of rows `s` of device `d`'s result at contents `f`. -/
def slot (c j : Dev nD) (f : Buf (Elt F) ((c : Thread nD τ).loc cc0_scratch0)) : sProp 𝕄 :=
  ((c : Thread nD τ).loc cc0_scratch0) ↦[slotS j]{fullShare} f
def row (d s : Dev nD) (f : Buf (Elt F) ((d : Thread nD τ).loc cc0_stg2_0)) : sProp 𝕄 :=
  ((d : Thread nD τ).loc cc0_stg2_0) ↦[rowS s]{fullShare} f

/-- The same at contents not said. -/
def slotAny (c j : Dev nD) : sProp 𝕄 := iprop(∃ f, slot c j f)
def rowAny (d s : Dev nD) : sProp 𝕄 := iprop(∃ f, row d s f)

omit [FloatOps F] in
instance slot_storable (c j : Dev nD) (f) : BI.Storable (upEmb : UEmb _ 𝕄) (slot (F := F) c j f) := by unfold slot; infer_instance
omit [FloatOps F] in
instance row_storable (d s : Dev nD) (f) : BI.Storable (upEmb : UEmb _ 𝕄) (row (F := F) d s f) := by unfold row; infer_instance
omit [FloatOps F] in
instance rowAny_storable (d s : Dev nD) : BI.Storable (upEmb : UEmb _ 𝕄) (rowAny (F := F) d s) := by unfold rowAny; infer_instance

/-! ## The schedule -/

/-- The credit of one copy: of a block of 64 rows of the result. -/
abbrev blkView : View sig .tc .vmem S64x64 .f32 :=
  (oM.slice (Rect.unit (s := S2048x64) ![0, 0] S64x64.size (by decide)) (fun _ => rfl)).view
abbrev N : ℕ := blkView.dmaCredit
theorem N_pos : 0 < N := View.dmaCredit_pos _ (by decide)

/-- Who discharges a duty of device `c`'s cell: of the barrier every other device, of a send semaphore the device
    itself, of a receive semaphore its sender; no copy goes from a device to itself. -/
def dutiesK (c : Dev nD) : CK → Finset (Dev nD)
  | none => Finset.univ.erase c
  | some (false, j) => if j = c then ∅ else {c}
  | some (true, s) => if s = c then ∅ else {s}

def amountK : CK → ℕ
  | none => 1
  | some _ => N

/-- What a duty hands over: device `d`'s signal its block of rows for `c`'s copy; a send's completion the slot again; a
    receive's completion the block of rows, written. -/
def payK (c : Dev nD) : CK → Dev nD → sProp 𝕄
  | none, d => rowAny d c
  | some (false, j), _ => slot c j (commV m ρ c)
  | some (true, s), _ => row c s (outV m ρ c)

theorem amountK_pos (k : CK) : 0 < amountK k := by
  rcases k with _ | k
  · exact Nat.one_pos
  · exact N_pos

instance payK_storable (c : Dev nD) (k : CK) (d : Dev nD) : BI.Storable (upEmb : UEmb _ 𝕄) (payK (F := F) m ρ c k d) := by
  rcases k with _ | ⟨_ | _, j⟩
  · exact rowAny_storable d c
  · exact slot_storable c j _
  · exact row_storable c j _

/-- One round: every cell's duties are at round 0. -/
def rd : Rounds.Schedule (GSem nD τ sig) (Dev nD) 𝕄 where
  duties g r := if r = 0 ∧ g.1.2 = .tc then (kindOf g.2).elim ∅ (dutiesK g.1.1) else ∅
  unitless _ := False
  amount g _ _ := (kindOf g.2).elim 1 amountK
  payload g _ d := (kindOf g.2).elim iprop(emp) fun k => payK m ρ g.1.1 k d
  amount_pos g _ _ _ := by
    rcases kindOf g.2 with _ | k
    · exact Nat.one_pos
    · exact amountK_pos k

instance rd_payload_storable (g : GSem nD τ sig) (r : ℕ) (d : Dev nD) :
    BI.Storable (upEmb : UEmb _ 𝕄) ((rd (F := F) m ρ).payload g r d) := by
  show BI.Storable upEmb ((kindOf g.2).elim iprop(emp) fun k => payK m ρ g.1.1 k d)
  rcases kindOf g.2 with _ | k
  · show BI.Storable upEmb iprop(emp); infer_instance
  · exact payK_storable m ρ _ k d

theorem duties_kcell (c : Dev nD) (k : CK) : (rd (F := F) m ρ).duties (kcell (c, k)) 0 = dutiesK c k := by
  show (if 0 = 0 ∧ (kcell (c, k)).1.2 = .tc then (kindOf (csem k)).elim ∅ (dutiesK c) else ∅) = _
  rw [if_pos ⟨rfl, rfl⟩, kindOf_csem]; rfl
theorem duties_later (g : GSem nD τ sig) (r : ℕ) (h : 1 ≤ r) : (rd (F := F) m ρ).duties g r = ∅ :=
  if_neg fun h' => by omega
theorem amount_kcell (c : Dev nD) (k : CK) (r : ℕ) (d : Dev nD) : (rd (F := F) m ρ).amount (kcell (c, k)) r d = amountK k := by
  show (kindOf (csem k)).elim 1 amountK = _
  rw [kindOf_csem]; rfl
theorem payload_kcell (c : Dev nD) (k : CK) (r : ℕ) (d : Dev nD) : (rd (F := F) m ρ).payload (kcell (c, k)) r d = payK m ρ c k d := by
  show (kindOf (csem k)).elim iprop(emp) (fun k => payK m ρ c k d) = _
  rw [kindOf_csem]; rfl

theorem expect_kcell (c : Dev nD) (k : CK) : (rd (F := F) m ρ).expect (kcell (c, k)) 0 = (dutiesK c k).card * amountK k := by
  unfold Schedule.expect Schedule.amountOf
  rw [duties_kcell, Finset.sum_congr rfl fun d _ => amount_kcell m ρ c k 0 d, Finset.sum_const, smul_eq_mul]

theorem expect_bar (c : Dev nD) : (rd (F := F) m ρ).expect (barCell c) 0 = 31 := by
  rw [expect_kcell]
  show (Finset.univ.erase c).card * 1 = 31
  rw [Finset.card_erase_of_mem (Finset.mem_univ c), Finset.card_univ, Fintype.card_fin, Nat.mul_one]; rfl
theorem expect_send {c j : Dev nD} (h : j ≠ c) : (rd (F := F) m ρ).expect (sendCell c j) 0 = N := by
  rw [expect_kcell]
  show (if j = c then ∅ else {c} : Finset (Dev nD)).card * N = N
  rw [if_neg h, Finset.card_singleton, Nat.one_mul]
theorem expect_recv {c s : Dev nD} (h : s ≠ c) : (rd (F := F) m ρ).expect (recvCell c s) 0 = N := by
  rw [expect_kcell]
  show (if s = c then ∅ else {s} : Finset (Dev nD)).card * N = N
  rw [if_neg h, Finset.card_singleton, Nat.one_mul]

/-- What a wait that takes a whole round hands over. -/
theorem rest_bar (c : Dev nD) : bigSep ((rd (F := F) m ρ).duties (barCell c) 0 \ ∅) (fun d => (rd (F := F) m ρ).payload (barCell c) 0 d)
    = bigSep (Finset.univ.erase c) (fun d => rowAny d c) := by
  rw [Finset.sdiff_empty, duties_kcell]
  exact bigSep_congr fun d _ => payload_kcell m ρ c none 0 d
theorem rest_send {c j : Dev nD} (h : j ≠ c) :
    bigSep ((rd (F := F) m ρ).duties (sendCell c j) 0 \ ∅) (fun d => (rd (F := F) m ρ).payload (sendCell c j) 0 d) = slot c j (commV m ρ c) := by
  rw [Finset.sdiff_empty, duties_kcell]
  show bigSep (if j = c then ∅ else {c} : Finset (Dev nD)) _ = _
  rw [if_neg h, bigSep_singleton, payload_kcell]; rfl
theorem rest_recv {c s : Dev nD} (h : s ≠ c) :
    bigSep ((rd (F := F) m ρ).duties (recvCell c s) 0 \ ∅) (fun d => (rd (F := F) m ρ).payload (recvCell c s) 0 d) = row c s (outV m ρ c) := by
  rw [Finset.sdiff_empty, duties_kcell]
  show bigSep (if s = c then ∅ else {s} : Finset (Dev nD)) _ = _
  rw [if_neg h, bigSep_singleton, payload_kcell]; rfl

/-! ## What a device owes, and the levels -/

/-- A unit to the barrier of every device in `A`, a copy's credit to device `c`'s receive semaphore on every device in `B`. -/
def owed (c : Dev nD) (A B : Finset (Dev nD)) : CellTallies nD τ sig Unit :=
  (∑ d ∈ A, tallyAt (barCell d) () 1) + ∑ d ∈ B, tallyAt (recvCell d c) () N

/-- At launch: to every other device. -/
def O₀ (c : Dev nD) : CellTallies nD τ sig Unit := owed c (Finset.univ.erase c) (Finset.univ.erase c)

theorem owed_signal (c : Dev nD) {A B : Finset (Dev nD)} {d : Dev nD} (h : d ∉ A) :
    owed c (insert d A) B = owed c A B + tallyAt (barCell d) () 1 := by
  unfold owed; rw [Finset.sum_insert h, add_assoc, add_comm]
theorem owed_send (c : Dev nD) {A B : Finset (Dev nD)} {d : Dev nD} (h : d ∉ B) :
    owed c A (insert d B) = owed c A B + tallyAt (recvCell d c) () N := by
  unfold owed; rw [Finset.sum_insert h, add_comm (tallyAt _ _ _), add_assoc]
theorem owed_empty (c : Dev nD) : owed c ∅ ∅ = 0 := by unfold owed; rw [Finset.sum_empty, Finset.sum_empty, add_zero]

def L (g : GSem nD τ sig) : Finset Unit := if g.1.2 = .tc then {()} else ∅
/-- The barriers at 1, the receive semaphores at 2, the others at 0. -/
def lvK : CK → ℕ
  | none => 1
  | some (false, _) => 0
  | some (true, _) => 2
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) (u : Unit) : lv (kcell (c, k)) u = lvK k := by
  show (kindOf (csem k)).elim 0 lvK = _; rw [kindOf_csem]; rfl

/-- The sums read at a cell. -/
theorem owed_apply (c : Dev nD) (A B : Finset (Dev nD)) (g : GSem nD τ sig) (u : Unit) :
    owed c A B g u = (∑ d ∈ A, tallyAt (barCell d) () 1 g u) + ∑ d ∈ B, tallyAt (recvCell d c) () N g u := by
  unfold owed
  rw [Pi.add_apply, Finsupp.add_apply, Finset.sum_apply, Finset.sum_apply, Finsupp.finset_sum_apply, Finsupp.finset_sum_apply]

theorem owed_pos {c : Dev nD} {A B : Finset (Dev nD)} {g : GSem nD τ sig} {u : Unit} (h : 0 < owed c A B g u) :
    (∃ d ∈ A, g = barCell d) ∨ ∃ d ∈ B, g = recvCell d c := by
  rw [owed_apply] at h
  by_contra hn
  rw [not_or] at hn
  have h1 : (∑ d ∈ A, (tallyAt (barCell d) () 1 : CellTallies nD τ sig Unit) g u) = 0 := Finset.sum_eq_zero fun d hd => by
    rw [tallyAt_apply]; exact if_neg fun h' => hn.1 ⟨d, hd, h'.1⟩
  have h2 : (∑ d ∈ B, (tallyAt (recvCell d c) () N : CellTallies nD τ sig Unit) g u) = 0 := Finset.sum_eq_zero fun d hd => by
    rw [tallyAt_apply]; exact if_neg fun h' => hn.2 ⟨d, hd, h'.1⟩
  rw [h1, h2] at h
  exact Nat.lt_irrefl 0 h

/-- A device may wait on a semaphore below everything it owes. -/
theorem mayWait_below (c : Dev nD) (sm : SemLoc sig) (A B : Finset (Dev nD)) (n : ℕ) (hn : (kindOf sm).elim 0 lvK ≤ n)
    (hA : A = ∅ ∨ n < 1) (hB : B = ∅ ∨ n < 2) :
    (levAts L lv : sProp 𝕄) ⊢ MayWait (c : Thread nD τ) sm () (owed c A B) :=
  MayOwe.of_cut (L := L) (lev := lv) n (fun p hp => by rw [Finset.mem_singleton.mp hp, L_tc]; exact Finset.mem_singleton_self _)
    (fun g u hg => by rcases owed_pos hg with ⟨d, _, rfl⟩ | ⟨d, _, rfl⟩ <;> exact Finset.mem_singleton_self _)
    (fun p hp => by rw [Finset.mem_singleton.mp hp]; exact hn)
    (fun g u hg => by
      rcases owed_pos hg with ⟨d, hd, rfl⟩ | ⟨d, hd, rfl⟩
      · rw [lv_kcell]; rcases hA with rfl | h
        · exact absurd hd (Finset.notMem_empty _)
        · exact h
      · rw [lv_kcell]; rcases hB with rfl | h
        · exact absurd hd (Finset.notMem_empty _)
        · exact h)

end Cert.AllToAll

end
-- ==== Proof.Contents.lean ====
/-
# The regions as the program addresses them, and what its reads and writes do to them
-/
module

public import proofs.«01_k».proof.Proof.Cells

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Semaphores named by a slice of an array -/

theorem sendS_of_off {off : Fin 1 → ℕ} {inb} {sq} (j : Dev nD) (h : off = ![j.val]) :
    ((cc0_scratch1.slice (Rect.unit (s := S32) off S1.size inb)).squeeze S_ sq).sem = sendS j := by
  subst h
  refine Fin.ext ?_
  show 3 + (S32.rowMajor _).val = 3 + j.val
  rw [Shape.rowMajor_val_one]
  have h0 : ((Shape.reshapeEquiv sq.numel_eq (fun i : Fin 0 => i.elim0) : S1.Idx) 0).val < 1 := Fin.isLt _
  have h1 := Nat.lt_one_iff.mp h0
  show 3 + (j.val + 1 * ((Shape.reshapeEquiv sq.numel_eq (fun i : Fin 0 => i.elim0) : S1.Idx) 0).val) = _
  rw [h1]
  rfl
theorem recvS_of_off {off : Fin 1 → ℕ} {inb} {sq} (j : Dev nD) (h : off = ![j.val]) :
    ((cc0_scratch2.slice (Rect.unit (s := S32) off S1.size inb)).squeeze S_ sq).sem = recvS j := by
  subst h
  refine Fin.ext ?_
  show 35 + (S32.rowMajor _).val = 35 + j.val
  rw [Shape.rowMajor_val_one]
  have h0 : ((Shape.reshapeEquiv sq.numel_eq (fun i : Fin 0 => i.elim0) : S1.Idx) 0).val < 1 := Fin.isLt _
  have h1 := Nat.lt_one_iff.mp h0
  show 35 + (j.val + 1 * ((Shape.reshapeEquiv sq.numel_eq (fun i : Fin 0 => i.elim0) : S1.Idx) 0).val) = _
  rw [h1]
  rfl

/-! ## Views -/

/-- A slot as the program names it: a slice of the communication buffer, its leading axis dropped. -/
abbrev slotV (off : Fin 3 → ℕ) (inb : ∀ a, off a + S1x64x64.size a ≤ S32x64x64.size a) : Memref sig .tc .vmem S64x64 .f32 :=
  (cM.slice (Rect.unit (s := S32x64x64) off S1x64x64.size inb) (fun _ => rfl)).squeeze S64x64 squeezes_S1x64x64_S64x64
/-- A block of 64 rows of the result as the program names it. -/
abbrev rowV (off : Fin 2 → ℕ) (inb : ∀ a, off a + S64x64.size a ≤ S2048x64.size a) : Memref sig .tc .vmem S64x64 .f32 :=
  oM.slice (Rect.unit (s := S2048x64) off S64x64.size inb) (fun _ => rfl)

/-- Both are credited the same, wherever they lie. -/
theorem rowV_credit (off inb) : (rowV off inb).view.dmaCredit = N := rfl
theorem slotV_credit (off inb) : (slotV off inb).view.dmaCredit = N := rfl

theorem slotRect_emb {off : Fin 3 → ℕ} (inb) (j : Dev nD) (h : off = ![j.val, 0, 0]) (u : Fin 1) (a b : Fin 64) :
    (Rect.unit (s := S32x64x64) off S1x64x64.size inb).emb (ix3 u a b) = ix3 (n0 := 32) j a b := by
  subst h
  have hu : u.val = 0 := by omega
  funext k
  match k with
  | ⟨0, _⟩ => exact Fin.ext (by show j.val + 1 * u.val = j.val; omega)
  | ⟨1, _⟩ => exact Fin.ext (by show 0 + 1 * a.val = a.val; omega)
  | ⟨2, _⟩ => exact Fin.ext (by show 0 + 1 * b.val = b.val; omega)

theorem rowRect_emb {off : Fin 2 → ℕ} (inb) (s : Dev nD) (h : off = ![64 * s.val, 0]) (a b : Fin 64) :
    (Rect.unit (s := S2048x64) off S64x64.size inb).emb (ix2 a b)
      = ix2 (n0 := 2048) ⟨64 * s.val + a.val, by have : s.val < 32 := s.isLt; omega⟩ b := by
  subst h
  funext k
  match k with
  | ⟨0, _⟩ => exact Fin.ext (by show 64 * s.val + 1 * a.val = 64 * s.val + a.val; omega)
  | ⟨1, _⟩ => exact Fin.ext (by show 0 + 1 * b.val = b.val; omega)

theorem slotV_emb {off : Fin 3 → ℕ} (inb) (j : Dev nD) (h : off = ![j.val, 0, 0]) (a b : Fin 64) :
    (slotV off inb).view.emb (ix2 a b) = ix3 (n0 := 32) j a b := by
  show (Rect.unit (s := S32x64x64) off S1x64x64.size inb).emb (Shape.reshapeEquiv _ (ix2 a b)) = _
  rw [reshapeEquiv_ix2_1ab]
  exact slotRect_emb inb j h _ a b

/-! ## The sets the views cover -/

/-- A slot's elements by coordinates, a block of rows' likewise. -/
theorem slot_forall {P : S32x64x64.Idx → Prop} (j : Dev nD) (h : ∀ a b : Fin 64, P (ix3 (n0 := 32) (n1 := 64) (n2 := 64) j a b)) :
    ∀ x ∈ slotS j, P x := fun x hx => by
  have e := eq_ix3 (n0 := 32) (n1 := 64) (n2 := 64) x
  rw [show x 0 = j from Fin.ext (mem_slotS.mp hx)] at e
  rw [e]
  exact h _ _
theorem row_forall {P : S2048x64.Idx → Prop} (s : Dev nD)
    (h : ∀ a b : Fin 64, P (ix2 (n0 := 2048) (n1 := 64) ⟨64 * s.val + a.val, by have : s.val < 32 := s.isLt; omega⟩ b)) :
    ∀ x ∈ rowS s, P x := fun x hx => by
  have hd := mem_rowS.mp hx
  have e := eq_ix2 (n0 := 2048) (n1 := 64) x
  rw [show x 0 = (⟨64 * s.val + (x 0).val % 64, by have : s.val < 32 := s.isLt; omega⟩ : Fin 2048) from Fin.ext (by show (x 0).val = 64 * s.val + (x 0).val % 64; omega)] at e
  rw [e]
  exact h ⟨(x 0).val % 64, Nat.mod_lt _ (by decide)⟩ _

theorem slotRect_set {off : Fin 3 → ℕ} (inb) (j : Dev nD) (h : off = ![j.val, 0, 0]) :
    (cM.access (Rect.unit (s := S32x64x64) off S1x64x64.size inb)).set = slotS j := by
  show Finset.univ.map _ = _
  ext i
  rw [Finset.mem_map, mem_slotS]
  constructor
  · rintro ⟨x, -, rfl⟩
    obtain ⟨u, a, b, rfl⟩ : ∃ (u : Fin 1) (a b : Fin 64), x = ix3 u a b := ⟨x 0, x 1, x 2, eq_ix3 (n0 := 1) (n1 := 64) (n2 := 64) x⟩
    show ((Rect.unit (s := S32x64x64) off S1x64x64.size inb).emb (ix3 u a b) 0).val = _
    rw [slotRect_emb inb j h]
  · intro hi
    revert i
    refine fun i hi => slot_forall (P := fun i => ∃ x ∈ Finset.univ, (Rect.unit (s := S32x64x64) off S1x64x64.size inb).emb x = i) j ?_ i (mem_slotS.mpr hi)
    exact fun a b => ⟨ix3 (0 : Fin 1) a b, Finset.mem_univ _, slotRect_emb inb j h _ a b⟩

theorem slotV_set {off : Fin 3 → ℕ} (inb) (j : Dev nD) (h : off = ![j.val, 0, 0]) : (slotV off inb).view.set = slotS j := by
  show (((cM.slice (Rect.unit (s := S32x64x64) off S1x64x64.size inb) (fun _ => rfl)).view).reshape S64x64 _).set = _
  rw [View.set_reshape]
  exact slotRect_set inb j h

theorem rowV_set {off : Fin 2 → ℕ} (inb) (s : Dev nD) (h : off = ![64 * s.val, 0]) : (rowV off inb).view.set = rowS s := by
  show Finset.univ.map _ = _
  ext i
  rw [Finset.mem_map, mem_rowS]
  constructor
  · rintro ⟨x, -, rfl⟩
    obtain ⟨a, b, rfl⟩ : ∃ (a b : Fin 64), x = ix2 a b := ⟨x 0, x 1, eq_ix2 (n0 := 64) (n1 := 64) x⟩
    show ((Rect.unit (s := S2048x64) off S64x64.size inb).emb (ix2 a b) 0).val / 64 = _
    rw [rowRect_emb inb s h]
    show (64 * s.val + a.val) / 64 = s.val
    omega
  · intro hi
    revert i
    refine fun i hi => row_forall (P := fun i => ∃ x ∈ Finset.univ, (Rect.unit (s := S2048x64) off S64x64.size inb).emb x = i) s ?_ i (mem_rowS.mpr hi)
    exact fun a b => ⟨ix2 a b, Finset.mem_univ _, rowRect_emb inb s h a b⟩

/-! ## Reads and writes -/

/-- The 64 columns `64 i ..` of a product of 512 columns, as a slot is stored. -/
theorem slices_at (i : Fin 8) : S64x512.Slices ![0, 64 * i.val] S64x64 := by revert i; decide
def slotPay (y : FVec F S64x512 .f32) (i : Fin 8) : FVec F S1x64x64 .f32 :=
  shapeCast S1x64x64 (extractStridedSlice S64x64 ![0, 64 * i.val] y (slices_at i)) shapeCasts_S64x64_S1x64x64

theorem slotPay_apply (y : FVec F S64x512 .f32) (i : Fin 8) (u : Fin 1) (a b : Fin 64) :
    slotPay y i (ix3 u a b) = y (ix2 (n0 := 64) (n1 := 512) a ⟨64 * i.val + b.val, by have := i.isLt; omega⟩) := by
  unfold slotPay
  rw [shapeCast_addUnit_apply ![64, 64]]
  refine extractStridedSlice_apply _ _ _ _ _ fun k => ?_
  match k with
  | ⟨0, _⟩ => show a.val = 0 + a.val; omega
  | ⟨1, _⟩ => rfl

/-- Storing the `i`-th group of columns of the `b`-th product into slot `8 b + i` fills it as said. -/
theorem store_slot {off : Fin 3 → ℕ} (inb) (c j : Dev nD) (b : Fin 4) (i : Fin 8) (hj : j.val = 8 * b.val + i.val)
    (h : off = ![j.val, 0, 0]) (f : Buf (Elt F) ((c : Thread nD τ).loc cc0_scratch0)) :
    ∀ x ∈ slotS j, (cM.access (Rect.unit (s := S32x64x64) off S1x64x64.size inb)).write (Elt F) f (slotPay (prodV m ρ c b) i) Finset.univ x
      = commV m ρ c x := by
  refine slot_forall j fun a q => ?_
  have he : (cM.access (Rect.unit (s := S32x64x64) off S1x64x64.size inb)).emb (ix3 (0 : Fin 1) a q) = ix3 (n0 := 32) (n1 := 64) (n2 := 64) j a q :=
    slotRect_emb inb j h _ a q
  rw [← he, View.write_emb_of_mem _ _ (Finset.mem_univ _), he]
  show slotPay (prodV m ρ c b) i (ix3 (0 : Fin 1) a q) = prodAt m ρ c a ⟨64 * j.val + q.val, _⟩
  rw [slotPay_apply]
  unfold prodAt
  have hi : i.val < 8 := i.isLt
  have hq : q.val < 64 := q.isLt
  have e1 : (⟨(64 * j.val + q.val) / 512, by have : j.val < 32 := j.isLt; omega⟩ : Fin 4) = b := Fin.ext (by show (64 * j.val + q.val) / 512 = b.val; omega)
  have e2 : (⟨(64 * j.val + q.val) % 512, Nat.mod_lt _ (by decide)⟩ : Fin 512) = ⟨64 * i.val + q.val, by omega⟩ :=
    Fin.ext (by show (64 * j.val + q.val) % 512 = 64 * i.val + q.val; omega)
  show _ = prodV m ρ c ⟨(64 * j.val + q.val) / 512, _⟩ (ix2 (n0 := 64) (n1 := 512) a ⟨(64 * j.val + q.val) % 512, _⟩)
  rw [e1, e2]

/-- A filled slot `d` of device `c`, read, is the block of rows `c` of what device `d` ends with. -/
theorem commV_outV (c d : Dev nD) (a b : Fin 64) :
    commV m ρ c (ix3 (n0 := 32) (n1 := 64) (n2 := 64) d a b)
      = outV m ρ d (ix2 (n0 := 2048) (n1 := 64) ⟨64 * c.val + a.val, by have : c.val < 32 := c.isLt; omega⟩ b) := by
  unfold commV outV
  have e1 : (⟨(64 * c.val + a.val) / 64, by have : c.val < 32 := c.isLt; show _ < 32; omega⟩ : Dev nD) = c := Fin.ext (by show _ / 64 = _; omega)
  have e2 : (⟨(64 * c.val + a.val) % 64, Nat.mod_lt _ (by decide)⟩ : Fin 64) = a := Fin.ext (by show _ % 64 = _; omega)
  show prodAt m ρ c a _ = prodAt m ρ ⟨(64 * c.val + a.val) / 64, _⟩ ⟨(64 * c.val + a.val) % 64, _⟩ _
  rw [e1, e2]

/-- Writing a payload `w` that reads `outV` into the block of rows `s` of device `d` makes it hold `outV`. -/
theorem write_row {off : Fin 2 → ℕ} (inb) (d s : Dev nD) (h : off = ![64 * s.val, 0]) (f : Buf (Elt F) ((d : Thread nD τ).loc cc0_stg2_0))
    (w : S64x64.Idx → Elt F .f32)
    (hw : ∀ a b : Fin 64, w (ix2 a b) = outV m ρ d (ix2 (n0 := 2048) (n1 := 64) ⟨64 * s.val + a.val, by have : s.val < 32 := s.isLt; omega⟩ b)) :
    ∀ x ∈ rowS s, (rowV off inb).view.write (Elt F) f w Finset.univ x = outV m ρ d x := by
  refine row_forall s fun a b => ?_
  have he : (rowV off inb).view.emb (ix2 a b) = ix2 (n0 := 2048) (n1 := 64) ⟨64 * s.val + a.val, by have : s.val < 32 := s.isLt; omega⟩ b :=
    rowRect_emb inb s h a b
  rw [← he, View.write_emb_of_mem _ _ (Finset.mem_univ _), he]
  exact hw a b

/-- A slot read through the view a copy reads it by. -/
theorem read_slotV {off : Fin 3 → ℕ} (inb) (c j : Dev nD) (h : off = ![j.val, 0, 0]) (f : Buf (Elt F) ((c : Thread nD τ).loc cc0_scratch0))
    (a b : Fin 64) : (slotV off inb).view.read (Elt F) f (ix2 a b) = f (ix3 (n0 := 32) (n1 := 64) (n2 := 64) j a b) := by
  show f ((slotV off inb).view.emb (ix2 a b)) = _
  rw [slotV_emb inb j h]

/-- What a copy of slot `d` of device `c` leaves in the block of rows `c` of device `d`. -/
theorem copy_row {off : Fin 3 → ℕ} {off' : Fin 2 → ℕ} (inb inb') (c d : Dev nD) (h : off = ![d.val, 0, 0]) (h' : off' = ![64 * c.val, 0])
    (f : Buf (Elt F) ((d : Thread nD τ).loc cc0_stg2_0)) :
    ∀ x ∈ rowS c, (rowV off' inb').view.write (Elt F) f ((slotV off inb).view.read (Elt F) (commV m ρ c)) Finset.univ x = outV m ρ d x :=
  write_row m ρ inb' d c h' f _ fun a b => by rw [read_slotV inb c d h]; exact commV_outV m ρ c d a b

/-- The same for the device's own block, moved by a load and a store. -/
theorem own_row {off : Fin 3 → ℕ} {off' : Fin 2 → ℕ} (inb inb') (c : Dev nD) (h : off = ![c.val, 0, 0]) (h' : off' = ![64 * c.val, 0])
    (f : Buf (Elt F) ((c : Thread nD τ).loc cc0_stg2_0)) :
    ∀ x ∈ rowS c, (oM.access (Rect.unit (s := S2048x64) off' S64x64.size inb')).write (Elt F) f
      (k0_pay45 (cM.view.readAt (Elt F) (Rect.unit (s := S32x64x64) off S1x64x64.size inb).toLoadRect (commV m ρ c))) Finset.univ x = outV m ρ c x :=
  write_row m ρ inb' c c h' f _ fun a b => by
    show shapeCast S64x64 (cM.view.readAt (Elt F) (Rect.unit (s := S32x64x64) off S1x64x64.size inb).toLoadRect (commV m ρ c)) _ (ix2 a b) = _
    rw [shapeCast_dropUnit_apply ![64, 64]]
    have e : (Fin.cons ⟨0, Nat.one_pos⟩ (ix2 a b) : S1x64x64.Idx) = ix3 (0 : Fin 1) a b := eq_ix3 (n0 := 1) (n1 := 64) (n2 := 64) _
    rw [e]
    show commV m ρ c ((Rect.unit (s := S32x64x64) off S1x64x64.size inb).emb (ix3 (0 : Fin 1) a b)) = _
    rw [slotRect_emb inb c h]
    exact commV_outV m ρ c c a b

/-- Loading the `b`-th block of columns of `w`. -/
theorem load_cols {off : Fin 2 → ℕ} (inb) (b : Fin 4) (h : off = ![0, 512 * b.val]) (w : (cc0_stg1_0 : Ref sig .tc).ty.Contents (Elt F)) :
    wM.view.readAt (Elt F) (Rect.unit (s := S2048x2048) off S2048x512.size inb).toLoadRect w = colBlk (F := F) w b := by
  subst h
  funext i
  show w ((Rect.unit (s := S2048x2048) ![0, 512 * b.val] S2048x512.size inb).emb i) = w _
  refine congrArg w (funext fun k => ?_)
  match k with
  | ⟨0, _⟩ => exact Fin.ext (by show 0 + 1 * (i 0).val = (i 0).val; omega)
  | ⟨1, _⟩ => exact Fin.ext (by show 512 * b.val + 1 * (i 1).val = 512 * b.val + (i 1).val; omega)

/-- Loading the whole of `x`. -/
theorem load_x (f : (cc0_stg0_0 : Ref sig .tc).ty.Contents (Elt F)) (inb) :
    xM.view.readAt (Elt F) (Rect.unit (s := S64x2048) ![0, 0] S64x2048.size inb).toLoadRect f = f :=
  Memref.readAt_unit_zero (Elt F) cc0_stg0_0 (funext fun a => by fin_cases a <;> rfl) _ f

/-! ## Buffers as the blocks they are made of -/

theorem slot_any (c j : Dev nD) (f : Buf (Elt F) ((c : Thread nD τ).loc cc0_scratch0)) : (slot c j f : sProp 𝕄) ⊢ slotAny c j := by
  unfold slotAny
  iintro H
  iexists f
  iexact H
theorem row_any (d s : Dev nD) (f : Buf (Elt F) ((d : Thread nD τ).loc cc0_stg2_0)) : (row d s f : sProp 𝕄) ⊢ rowAny d s := by
  unfold rowAny
  iintro H
  iexists f
  iexact H

theorem slots_eq (c : Dev nD) (f : Buf (Elt F) ((c : Thread nD τ).loc cc0_scratch0)) :
    (((c : Thread nD τ).loc cc0_scratch0) ↦{fullShare} f : sProp 𝕄) = bigSep Finset.univ fun j => slot c j f := by
  unfold slot
  exact Ring.pointsTo_blocks (ℓ := (c : Thread nD τ).loc cc0_scratch0) slotS slotS_disjoint slotS_cover f
theorem rows_eq (d : Dev nD) (f : Buf (Elt F) ((d : Thread nD τ).loc cc0_stg2_0)) :
    (((d : Thread nD τ).loc cc0_stg2_0) ↦{fullShare} f : sProp 𝕄) = bigSep Finset.univ fun s => row d s f := by
  unfold row
  exact Ring.pointsTo_blocks (ℓ := (d : Thread nD τ).loc cc0_stg2_0) rowS rowS_disjoint rowS_cover f

theorem slots_split (c : Dev nD) (f : Buf (Elt F) ((c : Thread nD τ).loc cc0_scratch0)) :
    (((c : Thread nD τ).loc cc0_scratch0) ↦{fullShare} f : sProp 𝕄) ⊢ bigSep Finset.univ fun j => slotAny c j := by
  rw [slots_eq]
  exact bigSep_mono fun j _ => slot_any c j f
theorem rows_split (d : Dev nD) (f : Buf (Elt F) ((d : Thread nD τ).loc cc0_stg2_0)) :
    (((d : Thread nD τ).loc cc0_stg2_0) ↦{fullShare} f : sProp 𝕄) ⊢ bigSep Finset.univ fun s => rowAny d s := by
  rw [rows_eq]
  exact bigSep_mono fun s _ => row_any d s f

end Cert.AllToAll

end
-- ==== Proof.State.lean ====
/-
# Where a device is in its run

The state of a device's run is a separating conjunction of its shares, each over the devices still to be served:
those not signalled yet, slots not filled yet, slots filled and not sent yet, copies not sent, not received, not
waited for yet. A device serves the others in three orders, and each set is "those whose place in the order is at
least `n`".
-/
module

public import proofs.«01_k».proof.Proof.Contents

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The three orders -/

/-- Device `d`'s place among those `c` signals and waits for, slot `j`'s place among those `c` fills, device `j`'s place
    among those `c` sends to. -/
def sigRank (c d : Dev nD) : ℕ := (d.val + 32 - c.val) % 32
def fillRank (c j : Dev nD) : ℕ := 8 * ((j.val / 8 + 4 - c.val / 8) % 4) + j.val % 8
def sendRank (c j : Dev nD) : ℕ := 8 * ((j.val / 8 + 4 - c.val / 8) % 4) + (j.val % 8 + 8 - (c.val + 1) % 8) % 8

section Ranks
variable {c d j : Dev nD}

theorem sigRank_inj (h : sigRank c d = sigRank c j) : d = j := by
  have hc : c.val < 32 := c.isLt
  have hd : d.val < 32 := d.isLt
  have hj : j.val < 32 := j.isLt
  unfold sigRank at h
  exact Fin.ext (by omega)
theorem fillRank_inj (h : fillRank c d = fillRank c j) : d = j := by
  have hc : c.val < 32 := c.isLt
  have hd : d.val < 32 := d.isLt
  have hj : j.val < 32 := j.isLt
  unfold fillRank at h
  exact Fin.ext (by omega)
theorem sendRank_inj (h : sendRank c d = sendRank c j) : d = j := by
  have hc : c.val < 32 := c.isLt
  have hd : d.val < 32 := d.isLt
  have hj : j.val < 32 := j.isLt
  unfold sendRank at h
  exact Fin.ext (by omega)
theorem sigRank_lt : sigRank c d < 32 := Nat.mod_lt _ (by decide)
theorem fillRank_lt : fillRank c d < 32 := by unfold fillRank; omega
theorem sendRank_lt : sendRank c d < 32 := by unfold sendRank; omega
theorem sigRank_self : sigRank c c = 0 := by
  unfold sigRank
  omega
theorem sigRank_pos (h : d ≠ c) : 1 ≤ sigRank c d := by
  rw [Nat.one_le_iff_ne_zero]
  exact fun h' => h (sigRank_inj (h'.trans sigRank_self.symm))
theorem sendRank_self : sendRank c c = 7 := by
  unfold sendRank
  omega
/-- A slot is filled and sent in the same one of four rounds of eight. -/
theorem round_eq : fillRank c j / 8 = sendRank c j / 8 := by unfold fillRank sendRank; omega

theorem sigRank_of {k : ℕ} (hk : k < 32) (h : d.val = (c.val + k) % 32) : sigRank c d = k := by
  have hc : c.val < 32 := c.isLt
  have hd : d.val < 32 := d.isLt
  unfold sigRank
  omega
theorem fillRank_of {r i : ℕ} (hr : r < 4) (hi : i < 8) (h : j.val = 8 * ((c.val / 8 + r) % 4) + i) : fillRank c j = 8 * r + i := by
  have hc : c.val < 32 := c.isLt
  have hd : j.val < 32 := j.isLt
  unfold fillRank
  omega
theorem sendRank_of {r t : ℕ} (hr : r < 4) (ht : t < 8) (h : j.val = 8 * ((c.val / 8 + r) % 4) + (c.val + 1 + t) % 8) :
    sendRank c j = 8 * r + t := by
  have hc : c.val < 32 := c.isLt
  have hd : j.val < 32 := j.isLt
  unfold sendRank
  omega

end Ranks

/-! ## The sets -/

/-- Not signalled (not waited for) before place `n`, not sent before `n`, not filled before `n`. -/
def sigT (c : Dev nD) (n : ℕ) : Finset (Dev nD) := Finset.univ.filter fun d => d ≠ c ∧ n ≤ sigRank c d
def sendT (c : Dev nD) (n : ℕ) : Finset (Dev nD) := Finset.univ.filter fun d => d ≠ c ∧ n ≤ sendRank c d
def fillT (c : Dev nD) (n : ℕ) : Finset (Dev nD) := Finset.univ.filter fun j => n ≤ fillRank c j
/-- Filled before place `a` and not sent before place `b`; the device's own slot is never sent. -/
def readyT (c : Dev nD) (a b : ℕ) : Finset (Dev nD) := Finset.univ.filter fun j => fillRank c j < a ∧ (j = c ∨ b ≤ sendRank c j)
/-- Waited for before place `n`. -/
def sigD (c : Dev nD) (n : ℕ) : Finset (Dev nD) := Finset.univ.filter fun d => d ≠ c ∧ sigRank c d < n
/-- Sent before place `a`, its completion not waited for before place `b`. -/
def flyT (c : Dev nD) (a b : ℕ) : Finset (Dev nD) := Finset.univ.filter fun d => d ≠ c ∧ sendRank c d < a ∧ b ≤ sigRank c d

section Sets
variable {c d j : Dev nD}

/-- A set is the device at place `n` and the set one place on. -/
theorem filter_insert {p q : Dev nD → Prop} [DecidablePred p] [DecidablePred q] (d : Dev nD) (hd : p d) (hd' : ¬ q d)
    (h : ∀ x, x ≠ d → (p x ↔ q x)) : Finset.univ.filter p = insert d (Finset.univ.filter q) ∧ d ∉ Finset.univ.filter q := by
  refine ⟨?_, fun h' => hd' (Finset.mem_filter.mp h').2⟩
  ext x
  rw [Finset.mem_insert, Finset.mem_filter, Finset.mem_filter]
  by_cases hx : x = d
  · subst hx; exact ⟨fun _ => Or.inl rfl, fun _ => ⟨Finset.mem_univ _, hd⟩⟩
  · exact ⟨fun h' => Or.inr ⟨Finset.mem_univ _, (h x hx).mp h'.2⟩, fun h' => ⟨Finset.mem_univ _, (h x hx).mpr (h'.resolve_left hx).2⟩⟩

theorem filter_same {p q : Dev nD → Prop} [DecidablePred p] [DecidablePred q] (h : ∀ x, p x ↔ q x) : Finset.univ.filter p = Finset.univ.filter q :=
  Finset.filter_congr fun x _ => h x

/-- Of two places that are not the same one, "at least `n`" and "beyond `n`" are the same. -/
theorem le_iff_of_ne {a n : ℕ} (h : a ≠ n) : n ≤ a ↔ n + 1 ≤ a := by omega
theorem lt_iff_of_ne {a n : ℕ} (h : a ≠ n) : a < n + 1 ↔ a < n := by omega

theorem sigT_step {n : ℕ} (hd : sigRank c d = n) (hn : d ≠ c) : sigT c n = insert d (sigT c (n + 1)) ∧ d ∉ sigT c (n + 1) :=
  filter_insert d ⟨hn, by omega⟩ (fun h => by omega) fun x hx => and_congr_right fun _ =>
    le_iff_of_ne fun h => hx (sigRank_inj (h.trans hd.symm))
theorem sigD_step {n : ℕ} (hd : sigRank c d = n) (hn : d ≠ c) : sigD c (n + 1) = insert d (sigD c n) ∧ d ∉ sigD c n :=
  filter_insert d ⟨hn, by omega⟩ (fun h => by omega) fun x hx => and_congr_right fun _ =>
    lt_iff_of_ne fun h => hx (sigRank_inj (h.trans hd.symm))
theorem sendT_step {n : ℕ} (hd : sendRank c d = n) (hn : d ≠ c) : sendT c n = insert d (sendT c (n + 1)) ∧ d ∉ sendT c (n + 1) :=
  filter_insert d ⟨hn, by omega⟩ (fun h => by omega) fun x hx => and_congr_right fun _ =>
    le_iff_of_ne fun h => hx (sendRank_inj (h.trans hd.symm))
theorem fillT_step {n : ℕ} (hd : fillRank c d = n) : fillT c n = insert d (fillT c (n + 1)) ∧ d ∉ fillT c (n + 1) :=
  filter_insert d (by omega) (fun h => by omega) fun x hx => le_iff_of_ne fun h => hx (fillRank_inj (h.trans hd.symm))
theorem ready_fill {n b : ℕ} (hd : fillRank c d = n) (hb : b ≤ 8 * (n / 8)) :
    readyT c (n + 1) b = insert d (readyT c n b) ∧ d ∉ readyT c n b :=
  filter_insert d ⟨by omega, Or.inr (by have := round_eq (c := c) (j := d); omega)⟩ (fun h => by omega) fun x hx => and_congr_left fun _ =>
    lt_iff_of_ne fun h => hx (fillRank_inj (h.trans hd.symm))
theorem ready_send {a n : ℕ} (hd : sendRank c d = n) (hn : d ≠ c) (ha : 8 * (n / 8) + 8 ≤ a) :
    readyT c a n = insert d (readyT c a (n + 1)) ∧ d ∉ readyT c a (n + 1) :=
  filter_insert d ⟨by have := round_eq (c := c) (j := d); omega, Or.inr (by omega)⟩
    (fun h => h.2.elim hn fun h => by omega) fun x hx => and_congr_right fun _ => or_congr_right
      (le_iff_of_ne fun h => hx (sendRank_inj (h.trans hd.symm)))
theorem fly_send {n : ℕ} (hd : sendRank c d = n) (hn : d ≠ c) : flyT c (n + 1) 1 = insert d (flyT c n 1) ∧ d ∉ flyT c n 1 :=
  filter_insert d ⟨hn, by omega, sigRank_pos hn⟩ (fun h => by omega) fun x hx => and_congr_right fun _ => and_congr_left fun _ =>
    lt_iff_of_ne fun h => hx (sendRank_inj (h.trans hd.symm))
theorem fly_wait {n : ℕ} (hd : sigRank c d = n) (hn : d ≠ c) : flyT c 32 n = insert d (flyT c 32 (n + 1)) ∧ d ∉ flyT c 32 (n + 1) :=
  filter_insert d ⟨hn, sendRank_lt, by omega⟩ (fun h => by omega) fun x hx => and_congr_right fun _ => and_congr_right fun _ =>
    le_iff_of_ne fun h => hx (sigRank_inj (h.trans hd.symm))

/-- At its own place a device sends nothing. -/
theorem sendT_own : sendT c 7 = sendT c 8 :=
  filter_same fun x => and_congr_right fun hx => le_iff_of_ne fun h => hx (sendRank_inj (h.trans sendRank_self.symm))
theorem ready_own {a : ℕ} : readyT c a 7 = readyT c a 8 :=
  filter_same fun x => and_congr_right fun _ => by
    by_cases hx : x = c
    · exact ⟨fun _ => Or.inl hx, fun _ => Or.inl hx⟩
    · exact or_congr_right (le_iff_of_ne fun h => hx (sendRank_inj (h.trans sendRank_self.symm)))
theorem fly_own : flyT c 8 1 = flyT c 7 1 :=
  filter_same fun x => and_congr_right fun hx => and_congr_left fun _ => lt_iff_of_ne fun h => hx (sendRank_inj (h.trans sendRank_self.symm))

/-- The sets at the ends of the orders. -/
theorem filter_others {p : Dev nD → Prop} [DecidablePred p] (h : ∀ x, p x ↔ x ≠ c) : Finset.univ.filter p = Finset.univ.erase c := by
  ext x; rw [Finset.mem_filter, Finset.mem_erase]
  exact ⟨fun h' => ⟨(h x).mp h'.2, h'.1⟩, fun h' => ⟨h'.2, (h x).mpr h'.1⟩⟩
theorem filter_none {p : Dev nD → Prop} [DecidablePred p] (h : ∀ x, ¬ p x) : Finset.univ.filter p = ∅ :=
  Finset.filter_eq_empty_iff.mpr fun x _ => h x

theorem sigT_first : sigT c 1 = Finset.univ.erase c := filter_others fun x => ⟨And.left, fun h => ⟨h, sigRank_pos h⟩⟩
theorem sigT_last : sigT c 32 = ∅ := filter_none fun x h => by have := sigRank_lt (c := c) (d := x); omega
theorem sigD_first : sigD c 1 = ∅ := filter_none fun x h => by have := sigRank_pos h.1; omega
theorem sigD_last : sigD c 32 = Finset.univ.erase c := filter_others fun x => ⟨And.left, fun h => ⟨h, sigRank_lt⟩⟩
theorem sendT_first : sendT c 0 = Finset.univ.erase c := filter_others fun x => ⟨And.left, fun h => ⟨h, Nat.zero_le _⟩⟩
theorem sendT_last : sendT c 32 = ∅ := filter_none fun x h => by have := sendRank_lt (c := c) (d := x); omega
theorem fillT_first : fillT c 0 = Finset.univ := Finset.filter_true_of_mem fun x _ => Nat.zero_le _
theorem fillT_last : fillT c 32 = ∅ := filter_none fun x h => by have := fillRank_lt (c := c) (d := x); omega
theorem readyT_first : readyT c 0 0 = ∅ := filter_none fun x h => by omega
theorem readyT_last : readyT c 32 32 = {c} := by
  ext x
  unfold readyT
  rw [Finset.mem_filter, Finset.mem_singleton]
  refine ⟨fun h => h.2.2.resolve_right fun h' => ?_, fun h => ⟨Finset.mem_univ _, fillRank_lt, Or.inl h⟩⟩
  have := sendRank_lt (c := c) (d := x)
  omega
theorem flyT_first : flyT c 0 1 = ∅ := filter_none fun x h => by omega
theorem flyT_last : flyT c 32 32 = ∅ := filter_none fun x h => by have := sigRank_lt (c := c) (d := x); omega

end Sets

/-- A share over a set that is one device more. -/
theorem bigSep_step {S T : Finset (Dev nD)} {d : Dev nD} (h : S = insert d T ∧ d ∉ T) (Φ : Dev nD → sProp 𝕄) :
    bigSep S Φ = iprop(Φ d ∗ bigSep T Φ) := by rw [h.1, bigSep_insert h.2]; rfl

/-! ## The state -/

variable (K : Dev nD × CK → ℕ)

/-- What every device knows throughout: every cell's invariant, that every cell has reached its round, and the levels. -/
def known : sProp 𝕄 :=
  iprop((bigSep Finset.univ fun ck : Dev nD × CK => cellInv ER (rd m ρ) (K ck) (kcell ck))
    ∗ (bigSep Finset.univ fun ck : Dev nD × CK => reached ER (kcell ck) 0) ∗ levAts L lv)

instance known_persistent : BI.Persistent (known m ρ K) := by unfold known; infer_instance

theorem known_inv (ck : Dev nD × CK) : known m ρ K ⊢ cellInv ER (rd m ρ) (K ck) (kcell ck) := by
  unfold known
  iintro ⟨H, -⟩
  iapply (show (bigSep Finset.univ fun ck : Dev nD × CK => cellInv ER (rd m ρ) (K ck) (kcell ck)) ⊢ cellInv ER (rd m ρ) (K ck) (kcell ck) from
    bigSep_elim (Finset.mem_univ ck))
  iexact H
theorem known_reached (ck : Dev nD × CK) : known m ρ K ⊢ reached ER (kcell ck) 0 := by
  unfold known
  iintro ⟨-, H, -⟩
  iapply (show (bigSep Finset.univ fun ck : Dev nD × CK => reached ER (kcell ck) 0 : sProp 𝕄) ⊢ reached ER (kcell ck) 0 from
    bigSep_elim (Finset.mem_univ ck))
  iexact H
theorem known_levels : known m ρ K ⊢ levAts L lv := by
  unfold known
  iintro ⟨-, -, H⟩
  iexact H

/-- The two inputs, as staged. -/
def inputs (c : Dev nD) : sProp 𝕄 :=
  iprop((((c : Thread nD τ).loc cc0_stg0_0) ↦{fullShare} xst m ρ c) ∗ (((c : Thread nD τ).loc cc0_stg1_0) ↦{fullShare} wst m ρ c))
/-- What is owed before signal `s` and send `n`. -/
def debt (c : Dev nD) (s n : ℕ) : sProp 𝕄 := iprop(∃ W, owes (c : Thread nD τ) (owed c (sigT c s) (sendT c n)) W)
/-- For each signal not sent yet, its token and the block of rows it hands over. -/
def toSignal (c : Dev nD) (s : ℕ) : sProp 𝕄 :=
  bigSep (sigT c s) fun d => iprop(dutyTok ER (barCell d) 0 c ∗ rowAny c d)
/-- The barrier, before and after its wait; after it, the blocks of rows the sends still to do write. -/
def barrier (c : Dev nD) (past : Bool) (n : ℕ) : sProp 𝕄 :=
  if past then iprop(atPos ER (barCell c) 1 ∅ 0 ∗ bigSep (sendT c n) fun d => rowAny d c)
  else iprop(atPos ER (barCell c) 0 ∅ 0 ∗ cred (tallyAt (barCell c) () 31))
/-- The slots to fill, and those filled and not sent. -/
def toFill (c : Dev nD) (a : ℕ) : sProp 𝕄 := bigSep (fillT c a) fun j => slotAny c j
def filled (c : Dev nD) (a n : ℕ) : sProp 𝕄 := bigSep (readyT c a n) fun j => slot c j (commV m ρ c)
/-- The tokens of the sends to do. -/
def toSend (c : Dev nD) (n : ℕ) : sProp 𝕄 :=
  bigSep (sendT c n) fun j => iprop(dutyTok ER (sendCell c j) 0 c ∗ dutyTok ER (recvCell j c) 0 c)
/-- The device's own block of rows. -/
def ownRow (c : Dev nD) (done : Bool) : sProp 𝕄 := if done then row c c (outV m ρ c) else rowAny c c
/-- The receives to wait for, and what those waited for gave. -/
def toRecv (c : Dev nD) (v : ℕ) : sProp 𝕄 :=
  bigSep (sigT c v) fun s => iprop(atPos ER (recvCell c s) 0 ∅ 0 ∗ cred (tallyAt (recvCell c s) () N))
def received (c : Dev nD) (v : ℕ) : sProp 𝕄 :=
  bigSep (sigD c v) fun s => iprop(atPos ER (recvCell c s) 1 ∅ 0 ∗ row c s (outV m ρ c))
/-- The sends on their way, the send semaphores to wait for, and what those waited for gave. -/
def flying (c : Dev nD) (n w : ℕ) : sProp 𝕄 := bigSep (flyT c n w) fun j => cred (tallyAt (sendCell c j) () N)
def toWait (c : Dev nD) (w : ℕ) : sProp 𝕄 := bigSep (sigT c w) fun j => atPos ER (sendCell c j) 0 ∅ 0
def waited (c : Dev nD) (w : ℕ) : sProp 𝕄 :=
  bigSep (sigD c w) fun j => iprop(atPos ER (sendCell c j) 1 ∅ 0 ∗ slot c j (commV m ρ c))
/-- The two semaphores nothing uses: a device sends nothing to itself. -/
def unused (c : Dev nD) : sProp 𝕄 := iprop(atPos ER (sendCell c c) 0 ∅ 0 ∗ atPos ER (recvCell c c) 0 ∅ 0)

/-- Device `c` before its signal `s`, its fill `a` and its send `n`, `past` its barrier or not, its own block of rows
    `done` or not, before its receive wait `v` and its send wait `w`. -/
def St (c : Dev nD) (s a n : ℕ) (past done : Bool) (v w : ℕ) : sProp 𝕄 :=
  iprop(known m ρ K ∗ inputs m ρ c ∗ debt c s n ∗ toSignal c s ∗ barrier c past n ∗ toFill c a ∗ filled m ρ c a n ∗ toSend c n
    ∗ ownRow m ρ c done ∗ toRecv c v ∗ received m ρ c v ∗ flying c n w ∗ toWait c w ∗ waited m ρ c w ∗ unused c)

/-! ## Steps -/

abbrev 𝒱₀ : Variants := Variants.none

/-- From `P`, device `c` runs `p` to an answer `φ` holds of, and to `P'`. -/
def Runs (c : Dev nD) {α : Type} (P : sProp 𝕄) (p : Prog (TpuEff nD τ sig (Elt F) Λ₀ .tc) α) (φ : α → Prop) (P' : sProp 𝕄) : Prop :=
  P ⊢ wp frame (wpE (defs₀ (F := F)) 𝒱₀ (c : Thread nD τ) none) Set.univ p (fun a => iprop(⌜φ a⌝ ∗ P'))

theorem Runs.bind {c : Dev nD} {α β : Type} {P P' P'' : sProp 𝕄} {p : Prog (TpuEff nD τ sig (Elt F) Λ₀ .tc) α}
    {k : α → Prog (TpuEff nD τ sig (Elt F) Λ₀ .tc) β} {φ : α → Prop} {ψ : β → Prop} (h : Runs c P p φ P')
    (h' : ∀ a, φ a → Runs c P' (k a) ψ P'') : Runs c P (p >>= k) ψ P'' := by
  unfold Runs
  rw [wp_bind]
  refine h.trans (wp_mono _ _ _ fun a => ?_)
  iintro ⟨%ha, H⟩
  iapply (show P' ⊢ _ from h' a ha)
  iexact H

theorem Runs.pure {c : Dev nD} {α : Type} {P : sProp 𝕄} {a : α} {φ : α → Prop} (h : φ a) : Runs (F := F) c P (pure a) φ P := by
  unfold Runs
  rw [Prog.pure_eq_ret, wp_ret]
  iintro H
  imodintro
  isplitr
  · ipureintro; exact h
  · iexact H

theorem Runs.mono {c : Dev nD} {α : Type} {P P' : sProp 𝕄} {p : Prog (TpuEff nD τ sig (Elt F) Λ₀ .tc) α} {φ ψ : α → Prop} (h : Runs c P p φ P')
    (h' : ∀ a, φ a → ψ a) : Runs c P p ψ P' := by
  unfold Runs
  refine h.trans (wp_mono _ _ _ fun a => ?_)
  iintro ⟨%ha, H⟩
  isplitr
  · ipureintro; exact h' a ha
  · iexact H

end Cert.AllToAll

end
-- ==== Proof.Steps.lean ====
/-
# One operation at a time

How each operation of the program takes a device from one state to the next.
-/
module

public import proofs.«01_k».proof.Proof.State

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## The shares, one device at a time -/

theorem debt_intro (c : Dev nD) (s n : ℕ) (W : Waits sig Unit) : (owes (c : Thread nD τ) (owed c (sigT c s) (sendT c n)) W : sProp 𝕄) ⊢ debt c s n := by
  unfold debt
  iintro H
  iexists W
  iexact H
theorem debt_elim (c : Dev nD) (s n : ℕ) : (debt c s n : sProp 𝕄) ⊢ iprop(∃ W, owes (c : Thread nD τ) (owed c (sigT c s) (sendT c n)) W) := by
  unfold debt
  exact Entails.refl _

/-- The duties at a cell, and what they hand over. -/
theorem duty_bar {c d : Dev nD} (h : d ≠ c) : c ∈ (rd (F := F) m ρ).duties ((d : Thread nD τ), .reg barS) 0 := by
  rw [show (rd (F := F) m ρ).duties ((d : Thread nD τ), .reg barS) 0 = _ from duties_kcell m ρ d none]
  exact Finset.mem_erase.mpr ⟨fun h' => h h'.symm, Finset.mem_univ _⟩
theorem duty_send {c j : Dev nD} (h : j ≠ c) : c ∈ (rd (F := F) m ρ).duties ((c : Thread nD τ), .dma (sendS j)) 0 := by
  rw [show (rd (F := F) m ρ).duties ((c : Thread nD τ), .dma (sendS j)) 0 = _ from duties_kcell m ρ c (some (false, j))]
  show c ∈ (if j = c then ∅ else {c} : Finset (Dev nD))
  rw [if_neg h]
  exact Finset.mem_singleton_self _
theorem duty_recv {c j : Dev nD} (h : j ≠ c) : c ∈ (rd (F := F) m ρ).duties ((j : Thread nD τ), .dma (recvS c)) 0 := by
  rw [show (rd (F := F) m ρ).duties ((j : Thread nD τ), .dma (recvS c)) 0 = _ from duties_kcell m ρ j (some (true, c))]
  show c ∈ (if c = j then ∅ else {c} : Finset (Dev nD))
  rw [if_neg fun h' => h h'.symm]
  exact Finset.mem_singleton_self _
theorem pay_bar (c d : Dev nD) : (rowAny c d : sProp 𝕄) ⊢ (rd m ρ).payload ((d : Thread nD τ), .reg barS) 0 c :=
  Entails.of_eq (payload_kcell m ρ d none 0 c).symm
theorem pay_send (c j : Dev nD) : (slot c j (commV m ρ c) : sProp 𝕄) ⊢ (rd m ρ).payload ((c : Thread nD τ), .dma (sendS j)) 0 c :=
  Entails.of_eq (payload_kcell m ρ c (some (false, j)) 0 c).symm
theorem pay_recv (c j : Dev nD) : (row j c (outV m ρ j) : sProp 𝕄) ⊢ (rd m ρ).payload ((j : Thread nD τ), .dma (recvS c)) 0 c :=
  Entails.of_eq (payload_kcell m ρ j (some (true, c)) 0 c).symm

set_option maxRecDepth 16384 in
/-- Once its signals are sent, a device may wait on its barrier; once its copies are too, on any of the exchange's semaphores. -/
theorem may_wait_bar (c : Dev nD) : known m ρ K ⊢ MayWait (c : Thread nD τ) (.reg barS) () (owed c (sigT c 32) (sendT c 0)) :=
  (known_levels m ρ K).trans (mayWait_below c (csem none) _ _ 1 (by rw [kindOf_csem]; decide) (Or.inl sigT_last) (Or.inr (by decide)))
set_option maxRecDepth 16384 in
theorem may_wait (c : Dev nD) (k : Bool × Dev nD) :
    known m ρ K ⊢ MayWait (c : Thread nD τ) (osem k) () (owed c (sigT c 32) (sendT c 32)) :=
  (known_levels m ρ K).trans (mayWait_below c (csem (some k)) _ _ 2
    (by rw [kindOf_csem]; show lvK (some k) ≤ 2; rcases k with ⟨_ | _, _⟩ <;> simp [lvK]) (Or.inl sigT_last) (Or.inl sendT_last))

/-! ## Signals and the barrier -/

/-- The `s`-th signal hands the block of rows of the device signalled over to it. -/
theorem signal_step (c d : Dev nD) {s a n v w : ℕ} {done : Bool} (hs : 1 ≤ s ∧ s < 32) (hd : d.val = (c.val + s) % 32) :
    Runs c (St m ρ K c s a n false done v w) (semSignalWord d barS 1#32) (fun _ => True) (St m ρ K c (s + 1) a n false done v w) := by
  have hr : sigRank c d = s := sigRank_of hs.2 hd
  have hn : d ≠ c := fun h => by rw [h, sigRank_self] at hr; omega
  have hset := sigT_step hr hn
  have e1 : (toSignal c s : sProp 𝕄) = iprop((dutyTok ER (barCell d) 0 c ∗ rowAny c d) ∗ toSignal c (s + 1)) := bigSep_step hset _
  unfold Runs St
  rw [e1]
  unfold semSignalWord
  iintro ⟨#Hk, Hin, HO, ⟨⟨Htok, Hrow⟩, Hs⟩, Hrest⟩
  ihave HO := (debt_elim c s n) $$ HO
  icases HO with ⟨%W, HO⟩
  rw [hset.1, owed_signal c hset.2]
  ihave #HI := (known_inv m ρ K (d, none)) $$ Hk
  ihave #HR := (known_reached m ρ K (d, none)) $$ Hk
  iapply (Rounds.wp_signal 𝒱₀ ER (rd m ρ) (c : Thread nD τ) none (dst := (d : Thread nD τ)) (κ := K (d, none)) (d := c)
    (duty_bar m ρ hn) ((amount_kcell m ρ d none 0 c).trans (by decide)) () (owed c (sigT c (s + 1)) (sendT c n)) rfl) $$ [HO Htok Hrow]
  · isplitr; · iexact HI
    isplitl [HO]; · iexact HO
    isplitl [Htok]; · iexact Htok
    isplitl [Hrow]; · iapply (pay_bar m ρ c d); iexact Hrow
    iexact HR
  iintro HO
  rw [wp_ret]
  imodintro
  isplitr; · ipureintro; trivial
  isplitr; · iexact Hk
  isplitl [Hin]; · iexact Hin
  isplitl [HO]; · iapply (debt_intro c (s + 1) n W); iexact HO
  iframe ∗

/-- The wait for all 31 signals: with them come the blocks of rows the device's copies go to. -/
theorem barrier_step (c : Dev nD) {a v w : ℕ} {done : Bool} :
    Runs c (St m ρ K c 32 a 0 false done v w) (semWaitWord barS 31#32) (fun _ => True) (St m ρ K c 32 a 0 true done v w) := by
  unfold Runs St semWaitWord
  iintro ⟨#Hk, Hin, HO, Hs, Hb, Hrest⟩
  ihave HO := (debt_elim c 32 0) $$ HO
  icases HO with ⟨%W, HO⟩
  ihave Hb := (show barrier c false 0 ⊢ iprop(atPos ER (barCell c) 0 ∅ 0 ∗ cred (tallyAt (barCell c) () 31)) from Entails.refl _) $$ Hb
  icases Hb with ⟨Hat, Hc⟩
  ihave #HI := (known_inv m ρ K (c, none)) $$ Hk
  iapply (Rounds.wp_wait_rest_token 𝒱₀ ER (rd m ρ) (c : Thread nD τ) none (κ := K (c, none))
    (wpE_semWait_eq 𝒱₀ (c : Thread nD τ) none Set.univ) (Set.mem_univ _) () (O := owed c (sigT c 32) (sendT c 0)) (W := W) (R := 0) (m := 0) (T := ∅)
    (by refine Eq.trans ?_ (expect_bar m ρ c).symm; decide)) $$ [Hc HO Hat]
  · isplitr; · iexact HI
    isplitl [Hc]; · iexact Hc
    isplitl [HO]; · iexact HO
    isplitr; · iapply (may_wait_bar m ρ K c); iexact Hk
    iexact Hat
  iintro ⟨HO, Hat, -, Hpay⟩
  ihave Hp := (show bigSep ((rd m ρ).duties ((c : Thread nD τ), .reg barS) 0 \ ∅) (fun d => (rd m ρ).payload ((c : Thread nD τ), .reg barS) 0 d)
    ⊢ bigSep (Finset.univ.erase c) (fun d => rowAny d c) from Entails.of_eq (rest_bar m ρ c)) $$ Hpay
  rw [wp_ret]
  imodintro
  isplitr; · ipureintro; trivial
  isplitr; · iexact Hk
  isplitl [Hin]; · iexact Hin
  isplitl [HO]; · iapply (debt_intro c 32 0 _); iexact HO
  isplitl [Hs]; · iexact Hs
  isplitl [Hat Hp]
  · iapply (show iprop(atPos ER (barCell c) 1 ∅ 0 ∗ bigSep (Finset.univ.erase c) (fun d => rowAny d c)) ⊢ barrier c true 0 from by
      rw [← sendT_first]; exact Entails.refl _)
    isplitl [Hat]; · iexact Hat
    iexact Hp
  iexact Hrest

/-! ## Loads and the filling of the slots -/

theorem load_x_step (c : Dev nD) {s a n v w : ℕ} {past done : Bool} {inb} {hl} :
    Runs c (St m ρ K c s a n past done v w)
      (Prog.lift (.load xM (Rect.unit (s := S64x2048) ![0, 0] S64x2048.size inb).toLoadRect hl)) (fun y => y = xst m ρ c) (St m ρ K c s a n past done v w) := by
  unfold Runs St inputs Prog.lift
  iintro ⟨#Hk, ⟨Hx, Hw⟩, Hrest⟩
  iapply (wp_load 𝒱₀ (c : Thread nD τ) none Set.univ (m := xM) (Finset.subset_univ _)) $$ Hx; iintro Hx
  rw [wp_ret]
  imodintro
  isplitr; · ipureintro; exact load_x _ _
  isplitr; · iexact Hk
  iframe ∗

/-- The load of the block of columns that round `r` multiplies by. -/
theorem load_w_step (c : Dev nD) {s a n v w : ℕ} {past done : Bool} (b : Fin 4) {off : Fin 2 → ℕ} {inb} {hl} (h : off = ![0, 512 * b.val]) :
    Runs c (St m ρ K c s a n past done v w)
      (Prog.lift (.load wM (Rect.unit (s := S2048x2048) off S2048x512.size inb).toLoadRect hl)) (fun y => y = colBlk (wst m ρ c) b)
      (St m ρ K c s a n past done v w) := by
  unfold Runs St inputs Prog.lift
  iintro ⟨#Hk, ⟨Hx, Hw⟩, Hrest⟩
  iapply (wp_load 𝒱₀ (c : Thread nD τ) none Set.univ (m := wM) (Finset.subset_univ _)) $$ Hw; iintro Hw
  rw [wp_ret]
  imodintro
  isplitr; · ipureintro; exact load_cols _ b h _
  isplitr; · iexact Hk
  iframe ∗

/-- The block of columns round `r` of device `c` multiplies by, and the slot it fills `i`-th in it. -/
def blkOf (c : Dev nD) (r : ℕ) : Fin 4 := ⟨(c.val / 8 + r) % 4, Nat.mod_lt _ (by decide)⟩
def slotOf (c : Dev nD) (r : ℕ) (i : Fin 8) : Dev nD := ⟨8 * ((c.val / 8 + r) % 4) + i.val, by have := i.isLt; show _ < 32; omega⟩

theorem toFill_step (c : Dev nD) {r a : ℕ} (hr : r < 4) (i : Fin 8) (ha : a = 8 * r + i.val) :
    (toFill c a : sProp 𝕄) = iprop(slotAny c (slotOf c r i) ∗ toFill c (a + 1)) :=
  bigSep_step (fillT_step ((fillRank_of hr i.isLt rfl).trans ha.symm)) _

/-- Before it is filled a slot is read once, to no effect. -/
theorem fill_load_step (c : Dev nD) {s a n v w : ℕ} {past done : Bool} (r : ℕ) (i : Fin 8) (hr : r < 4) (ha : a = 8 * r + i.val)
    {off : Fin 3 → ℕ} {inb} {hl} (h : off = ![8 * ((c.val / 8 + r) % 4) + i.val, 0, 0]) :
    Runs c (St m ρ K c s a n past done v w)
      (Prog.lift (.load cM (Rect.unit (s := S32x64x64) off S1x64x64.size inb).toLoadRect hl)) (fun _ => True)
      (St m ρ K c s a n past done v w) := by
  unfold Runs St Prog.lift
  rw [toFill_step c hr i ha]
  unfold slotAny slot
  iintro ⟨#Hk, Hin, HO, Hs, Hb, ⟨⟨%f, Hf⟩, Hfs⟩, Hrest⟩
  iapply (wp_load_rect 𝒱₀ (c : Thread nD τ) none Set.univ (m := cM) (subset_of_eq (slotRect_set inb (slotOf c r i) h))) $$ Hf; iintro Hf
  rw [wp_ret]
  imodintro
  isplitr; · ipureintro; trivial
  isplitr; · iexact Hk
  isplitl [Hin]; · iexact Hin
  isplitl [HO]; · iexact HO
  isplitl [Hs]; · iexact Hs
  isplitl [Hb]; · iexact Hb
  isplitl [Hf Hfs]
  · isplitl [Hf]; · iexists f; iexact Hf
    iexact Hfs
  iexact Hrest

/-- The `i`-th store of round `r`. -/
theorem fill_step (c : Dev nD) {s a n v w : ℕ} {past done : Bool} (r : ℕ) (i : Fin 8) (hr : r < 4) (ha : a = 8 * r + i.val)
    (hn : n ≤ 8 * (a / 8)) {off : Fin 3 → ℕ} {inb} {p} {hx hm} (h : off = ![8 * ((c.val / 8 + r) % 4) + i.val, 0, 0])
    (hp : p = slotPay (prodV m ρ c (blkOf c r)) i) :
    Runs c (St m ρ K c s a n past done v w)
      (Prog.lift (.store cM (Rect.unit (s := S32x64x64) off S1x64x64.size inb) p Finset.univ hx hm)) (fun _ => True)
      (St m ρ K c s (a + 1) n past done v w) := by
  subst hp
  have e2 : (filled m ρ c (a + 1) n : sProp 𝕄) = iprop(slot c (slotOf c r i) (commV m ρ c) ∗ filled m ρ c a n) :=
    bigSep_step (ready_fill ((fillRank_of hr i.isLt rfl).trans ha.symm) hn) _
  have hw := fun f => pointsTo_congr (nD := nD) (τ := τ) (sig := sig) (Ix := Unit) (Val := Elt F) (Name := ℕ) (U := UU) (Lvl := ℕ) (q := fullShare)
    (ℓ := (c : Thread nD τ).loc cc0_scratch0) (store_slot m ρ inb c (slotOf c r i) (blkOf c r) i rfl h f)
  unfold Runs St Prog.lift
  rw [toFill_step c hr i ha, e2]
  unfold slotAny slot
  iintro ⟨#Hk, Hin, HO, Hs, Hb, ⟨⟨%f, Hf⟩, Hfs⟩, Hr, Hrest⟩
  iapply (wp_store 𝒱₀ (c : Thread nD τ) none Set.univ (m := cM) (r := Rect.unit (s := S32x64x64) off S1x64x64.size inb) (Mk := Finset.univ)
    (subset_of_eq (slotRect_set inb (slotOf c r i) h))) $$ Hf
  iintro Hf
  rw [wp_ret]
  imodintro
  isplitr; · ipureintro; trivial
  isplitr; · iexact Hk
  isplitl [Hin]; · iexact Hin
  isplitl [HO]; · iexact HO
  isplitl [Hs]; · iexact Hs
  isplitl [Hb]; · iexact Hb
  isplitl [Hfs]; · iexact Hfs
  isplitl [Hf Hr]
  · isplitl [Hf]; · iapply (Entails.of_eq (hw f)); iexact Hf
    iexact Hr
  iexact Hrest

/-! ## Sends -/

/-- A slot and a block of rows, as the elements of the views the program names them by. -/
theorem slot_view {off : Fin 3 → ℕ} (inb) (c j : Dev nD) (h : off = ![j.val, 0, 0]) (f : Buf (Elt F) ((c : Thread nD τ).loc cc0_scratch0)) :
    (slot c j f : sProp 𝕄) = ((slotV off inb).view.loc (c : Thread nD τ) ↦[(slotV off inb).view.set]{fullShare} f) := by
  unfold slot
  rw [slotV_set inb j h]
theorem row_view {off : Fin 2 → ℕ} (inb) (d s : Dev nD) (h : off = ![64 * s.val, 0]) (f : Buf (Elt F) ((d : Thread nD τ).loc cc0_stg2_0)) :
    (row d s f : sProp 𝕄) = ((rowV off inb).view.loc (d : Thread nD τ) ↦[(rowV off inb).view.set]{fullShare} f) := by
  unfold row
  rw [rowV_set inb s h]

theorem barrier_send (c j : Dev nD) {n : ℕ} (hn : sendRank c j = n) (hj : j ≠ c) :
    (barrier c true n : sProp 𝕄) ⊢ iprop(rowAny j c ∗ barrier c true (n + 1)) := by
  show iprop(atPos ER (barCell c) 1 ∅ 0 ∗ bigSep (sendT c n) fun d => rowAny d c)
    ⊢ iprop(rowAny j c ∗ atPos ER (barCell c) 1 ∅ 0 ∗ bigSep (sendT c (n + 1)) fun d => rowAny d c)
  rw [bigSep_step (sendT_step hn hj)]
  iintro ⟨Ha, Hr, Hs⟩
  iframe ∗

/-- The send of slot `j` to device `j`, which writes there the block of rows the barrier brought. -/
theorem send_step (c j : Dev nD) {a n : ℕ} (hn : sendRank c j = n) (hj : j ≠ c) (ha : 8 * (n / 8) + 8 ≤ a)
    {o3 : Fin 2 → ℕ} {o4 : Fin 3 → ℕ} {i3 i4} (h3 : o3 = ![64 * c.val, 0]) (h4 : o4 = ![j.val, 0, 0])
    {qs qr : DmaSem sig} (hqs : qs = sendS j) (hqr : qr = recvS c) {hsc hsrc hdst hsem} :
    Runs c (St m ρ K c 32 a n true false 1 1)
      (Prog.lift (.enqueueDma (slotV o4 i4) (.remote (Dev.tc j : Thread nD τ) (rowV o3 i3) (.dma qs) hsc) (.dma qr) hsrc hdst hsem))
      (fun _ => True) (St m ρ K c 32 a (n + 1) true false 1 1) := by
  subst hqs hqr
  have hset := sendT_step hn hj
  have e1 : (toSend c n : sProp 𝕄) = iprop((dutyTok ER (sendCell c j) 0 c ∗ dutyTok ER (recvCell j c) 0 c) ∗ toSend c (n + 1)) := bigSep_step hset _
  have e2 : (filled m ρ c a n : sProp 𝕄) = iprop(slot c j (commV m ρ c) ∗ filled m ρ c a (n + 1)) := bigSep_step (ready_send hn hj ha) _
  have e3 : (flying c (n + 1) 1 : sProp 𝕄) = iprop(cred (tallyAt (sendCell c j) () N) ∗ flying c n 1) := bigSep_step (fly_send hn hj) _
  have hpay₁ : ((slotV o4 i4).view.loc (c : Thread nD τ) ↦[(slotV o4 i4).view.set]{fullShare} commV m ρ c : sProp 𝕄)
      ⊢ (rd m ρ).payload ((c : Thread nD τ), .dma (sendS j)) 0 c := by
    rw [← slot_view i4 c j h4]
    exact pay_send m ρ c j
  have hpay₂ (fd : Buf (Elt F) ((j : Thread nD τ).loc cc0_stg2_0)) : ((rowV o3 i3).view.loc (j : Thread nD τ) ↦[(rowV o3 i3).view.set]{fullShare}
        (rowV o3 i3).view.write (Elt F) fd ((slotV o4 i4).view.read (Elt F) (commV m ρ c)) Finset.univ : sProp 𝕄)
      ⊢ (rd m ρ).payload ((j : Thread nD τ), .dma (recvS c)) 0 c := by
    rw [← row_view i3 j c h3]
    unfold row
    rw [pointsTo_congr (copy_row m ρ i4 i3 c j h4 h3 fd)]
    exact pay_recv m ρ c j
  unfold Runs St Prog.lift
  rw [e1, e2, e3]
  iintro ⟨#Hk, Hin, HO, Hs, Hb, Hf, ⟨Hslot, Hr⟩, ⟨⟨Htok, Htok'⟩, Hts⟩, Hown, Htr, Hrd, Hfl, Hrest⟩
  ihave HO := (debt_elim c 32 n) $$ HO
  icases HO with ⟨%W, HO⟩
  rw [hset.1, owed_send c hset.2]
  ihave Hb := (barrier_send c j hn hj) $$ Hb
  icases Hb with ⟨Hrow, Hb⟩
  unfold rowAny
  icases Hrow with ⟨%fd, Hrow⟩
  ihave #HI := (known_inv m ρ K (c, some (false, j))) $$ Hk
  ihave #HR := (known_reached m ρ K (c, some (false, j))) $$ Hk
  ihave #HI' := (known_inv m ρ K (j, some (true, c))) $$ Hk
  ihave #HR' := (known_reached m ρ K (j, some (true, c))) $$ Hk
  ihave Hslot := (Entails.of_eq (slot_view i4 c j h4 (commV m ρ c))) $$ Hslot
  ihave Hrow := (Entails.of_eq (row_view i3 j c h3 fd)) $$ Hrow
  iapply (Rounds.wp_send_pointsTo 𝒱₀ ER (rd m ρ) (c : Thread nD τ) none (c' := (j : Thread nD τ)) (src := slotV o4 i4) (dst := rowV o3 i3)
    (sS := .dma (sendS j)) (sem := .dma (recvS c)) (κ₁ := K (c, some (false, j))) (κ₂ := K (j, some (true, c)))
    (r₁ := 0) (r₂ := 0) (d₁ := c) (d₂ := c) (fd := fd) (duty_send m ρ hj) (duty_recv m ρ hj) () () N rfl
    (amount_kcell m ρ c (some (false, j)) 0 c) (amount_kcell m ρ j (some (true, c)) 0 c) (owed c (sigT c 32) (sendT c (n + 1))) rfl (W := W)
    hpay₁ (hpay₂ fd))
    $$ [Hslot Hrow HO Htok Htok']
  · isplitr; · iexact HI
    isplitr; · iexact HI'
    isplitl [Hslot]; · iexact Hslot
    isplitl [Hrow]; · iexact Hrow
    isplitl [HO]; · iexact HO
    isplitl [Htok]; · iexact Htok
    isplitr; · iexact HR
    isplitl [Htok']; · iexact Htok'
    iexact HR'
  iintro ⟨Hc, HO⟩
  rw [wp_ret]
  imodintro
  isplitr; · ipureintro; trivial
  isplitr; · iexact Hk
  isplitl [Hin]; · iexact Hin
  isplitl [HO]; · iapply (debt_intro c 32 (n + 1) W); iexact HO
  isplitl [Hs]; · iexact Hs
  isplitl [Hb]; · iexact Hb
  isplitl [Hf]; · iexact Hf
  isplitl [Hr]; · iexact Hr
  isplitl [Hts]; · iexact Hts
  isplitl [Hown]; · iexact Hown
  isplitl [Htr]; · iexact Htr
  isplitl [Hrd]; · iexact Hrd
  isplitl [Hc Hfl]
  · isplitl [Hc]; · iexact Hc
    iexact Hfl
  iexact Hrest

/-- Round `r`'s `t`-th send as the program guards it (it is no copy to the device itself), and what follows. -/
theorem send_then {c : Dev nD} {β : Type} {a J jd : ℕ} (r t : ℕ) {b : BitVec 1} {hlt : b = 1#1 → jd < nD}
    {o1 o2 : Fin 1 → ℕ} {o3 : Fin 2 → ℕ} {o4 : Fin 3 → ℕ} {i1 : b = 1#1 → ∀ a, o1 a + S1.size a ≤ S32.size a}
    {i2 : b = 1#1 → ∀ a, o2 a + S1.size a ≤ S32.size a} {i3 : b = 1#1 → ∀ a, o3 a + S64x64.size a ≤ S2048x64.size a}
    {i4 : b = 1#1 → ∀ a, o4 a + S1x64x64.size a ≤ S32x64x64.size a} {k : Prog (TpuEff nD τ sig (Elt F) Λ₀ .tc) β} {ψ : β → Prop} {P : sProp 𝕄}
    (hb : b = 1#1) (hjd : jd = J) (h1 : o1 = ![J]) (h2 : o2 = ![c.val]) (h3 : o3 = ![64 * c.val, 0]) (h4 : o4 = ![J, 0, 0])
    (h' : Runs c (St m ρ K c 32 a (8 * r + t + 1) true false 1 1) k ψ P)
    (hJ : J = 8 * ((c.val / 8 + r) % 4) + (c.val + 1 + t) % 8) (hr : r < 4 ∧ t < 8 ∧ 8 * r + t ≠ 7 ∧ 8 * r + 8 ≤ a := by decide) :
    Runs c (St m ρ K c 32 a (8 * r + t) true false 1 1)
      (if h : b = 1#1 then do
        Prog.lift (.enqueueDma (slotV o4 (i4 h)) (.remote (Dev.tc ⟨jd, hlt h⟩ : Thread nD τ) (rowV o3 (i3 h))
          (.dma ((cc0_scratch1.slice (Rect.unit (s := S32) o1 S1.size (i1 h))).squeeze S_ squeezes_S1_S_).sem))
          (.dma ((cc0_scratch2.slice (Rect.unit (s := S32) o2 S1.size (i2 h))).squeeze S_ squeezes_S1_S_).sem)
          ((View.wordExact_bits rfl).reshape _ _) (View.wordExact_bits rfl) ⟨⟨rfl, Or.inl rfl⟩, trivial⟩)
        k
      else k) ψ P := by
  subst hjd
  obtain ⟨hr, ht, h7, ha⟩ := hr
  have hc : c.val < 32 := c.isLt
  rw [dif_pos hb]
  refine Runs.bind (send_step m ρ K c ⟨jd, hlt hb⟩ (sendRank_of hr ht hJ) (fun h => ?_) ?_ h3 h4 (sendS_of_off _ h1) (recvS_of_off c h2))
    fun _ _ => h'
  · have e : jd = c.val := congrArg Fin.val h
    omega
  · omega

/-- The one guarded send that would be a copy to the device itself, and is not made; and what follows. -/
theorem own_send_then {c : Dev nD} {β : Type} {a : ℕ} {b : BitVec 1} {p : b = 1#1 → Prog (TpuEff nD τ sig (Elt F) Λ₀ .tc) β}
    {k : Prog (TpuEff nD τ sig (Elt F) Λ₀ .tc) β} {ψ : β → Prop} {P : sProp 𝕄} (hb : ¬ b = 1#1)
    (h' : Runs c (St m ρ K c 32 a 8 true false 1 1) k ψ P) :
    Runs c (St m ρ K c 32 a 7 true false 1 1) (if h : b = 1#1 then p h else k) ψ P := by
  rw [dif_neg hb]
  have e : St m ρ K c 32 a 8 true false 1 1 = St m ρ K c 32 a 7 true false 1 1 := by
    unfold St debt barrier filled toSend flying
    rw [sendT_own, ready_own, fly_own]
  rwa [e] at h'

/-! ## The device's own block of rows -/

theorem filled_last (c : Dev nD) : (filled m ρ c 32 32 : sProp 𝕄) = slot c c (commV m ρ c) := by
  unfold filled
  rw [readyT_last, bigSep_singleton]

theorem own_load_step (c : Dev nD) {off : Fin 3 → ℕ} {inb} {hl} (h : off = ![c.val, 0, 0]) :
    Runs c (St m ρ K c 32 32 32 true false 1 1) (Prog.lift (.load cM (Rect.unit (s := S32x64x64) off S1x64x64.size inb).toLoadRect hl))
      (fun y => y = cM.view.readAt (Elt F) (Rect.unit (s := S32x64x64) off S1x64x64.size inb).toLoadRect (commV m ρ c))
      (St m ρ K c 32 32 32 true false 1 1) := by
  unfold Runs St Prog.lift
  rw [filled_last]
  unfold slot
  iintro ⟨#Hk, Hin, HO, Hs, Hb, Hf, Hr, Hrest⟩
  iapply (wp_load_rect 𝒱₀ (c : Thread nD τ) none Set.univ (m := cM) (subset_of_eq (slotRect_set inb c h))) $$ Hr; iintro Hr
  rw [wp_ret]
  imodintro
  isplitr; · ipureintro; rfl
  isplitr; · iexact Hk
  iframe ∗

theorem rowRect_set {off : Fin 2 → ℕ} (inb) (s : Dev nD) (h : off = ![64 * s.val, 0]) :
    (oM.access (Rect.unit (s := S2048x64) off S64x64.size inb)).set = rowS s := rowV_set inb s h

theorem own_read_step (c : Dev nD) {off : Fin 2 → ℕ} {inb} {hl} (h : off = ![64 * c.val, 0]) :
    Runs c (St m ρ K c 32 32 32 true false 1 1) (Prog.lift (.load oM (Rect.unit (s := S2048x64) off S64x64.size inb).toLoadRect hl))
      (fun _ => True) (St m ρ K c 32 32 32 true false 1 1) := by
  have e : (ownRow m ρ c false : sProp 𝕄) = iprop(∃ f, row c c f) := rfl
  unfold Runs St Prog.lift
  rw [e]
  unfold row
  iintro ⟨#Hk, Hin, HO, Hs, Hb, Hf, Hr, Hts, ⟨%f, Hown⟩, Hrest⟩
  iapply (wp_load_rect 𝒱₀ (c : Thread nD τ) none Set.univ (m := oM) (subset_of_eq (rowRect_set inb c h))) $$ Hown; iintro Hown
  rw [wp_ret]
  imodintro
  isplitr; · ipureintro; trivial
  isplitr; · iexact Hk
  isplitl [Hin]; · iexact Hin
  isplitl [HO]; · iexact HO
  isplitl [Hs]; · iexact Hs
  isplitl [Hb]; · iexact Hb
  isplitl [Hf]; · iexact Hf
  isplitl [Hr]; · iexact Hr
  isplitl [Hts]; · iexact Hts
  isplitl [Hown]; · iexists f; iexact Hown
  iexact Hrest

theorem own_store_step (c : Dev nD) {off : Fin 2 → ℕ} {off' : Fin 3 → ℕ} {inb inb'} {p} {hx hm} (h : off = ![64 * c.val, 0]) (h' : off' = ![c.val, 0, 0])
    (hp : p = k0_pay45 (cM.view.readAt (Elt F) (Rect.unit (s := S32x64x64) off' S1x64x64.size inb').toLoadRect (commV m ρ c))) :
    Runs c (St m ρ K c 32 32 32 true false 1 1)
      (Prog.lift (.store oM (Rect.unit (s := S2048x64) off S64x64.size inb) p Finset.univ hx hm)) (fun _ => True)
      (St m ρ K c 32 32 32 true true 1 1) := by
  subst hp
  have e : (ownRow m ρ c false : sProp 𝕄) = iprop(∃ f, row c c f) := rfl
  have e' : (ownRow m ρ c true : sProp 𝕄) = row c c (outV m ρ c) := rfl
  have hw := fun f => pointsTo_congr (nD := nD) (τ := τ) (sig := sig) (Ix := Unit) (Val := Elt F) (Name := ℕ) (U := UU) (Lvl := ℕ) (q := fullShare)
    (ℓ := (c : Thread nD τ).loc cc0_stg2_0) (own_row m ρ inb' inb c h' h f)
  unfold Runs St Prog.lift
  rw [e, e']
  unfold row
  iintro ⟨#Hk, Hin, HO, Hs, Hb, Hf, Hr, Hts, ⟨%f, Hown⟩, Hrest⟩
  iapply (wp_store 𝒱₀ (c : Thread nD τ) none Set.univ (m := oM) (r := Rect.unit (s := S2048x64) off S64x64.size inb) (Mk := Finset.univ)
    (subset_of_eq (rowRect_set inb c h))) $$ Hown
  iintro Hown
  rw [wp_ret]
  imodintro
  isplitr; · ipureintro; trivial
  isplitr; · iexact Hk
  isplitl [Hin]; · iexact Hin
  isplitl [HO]; · iexact HO
  isplitl [Hs]; · iexact Hs
  isplitl [Hb]; · iexact Hb
  isplitl [Hf]; · iexact Hf
  isplitl [Hr]; · iexact Hr
  isplitl [Hts]; · iexact Hts
  isplitl [Hown]; · iapply (Entails.of_eq (hw f)); iexact Hown
  iexact Hrest

/-! ## Waits for the copies -/

/-- A wait for a whole copy on one of the exchange's semaphores: it brings what the copy's completion hands over. -/
theorem wait_copy (c : Dev nD) (k : Bool × Dev nD) (hk : k.2 ≠ c) {q : DmaSem sig} (hq : .dma q = osem k) {P : sProp 𝕄}
    (hP : bigSep ((rd (F := F) m ρ).duties (kcell (c, some k)) 0 \ ∅) (fun d => (rd (F := F) m ρ).payload (kcell (c, some k)) 0 d) = P)
    {src dst : Memref sig .tc .vmem S64x64 .f32} (hN : dst.view.dmaCredit = N) {hsrc hdst} :
    Runs c iprop(known m ρ K ∗ debt c 32 32 ∗ atPos ER (kcell (c, some k)) 0 ∅ 0 ∗ cred (tallyAt (kcell (c, some k)) () N))
      (Prog.lift (.waitDma2 q src dst hsrc hdst)) (fun _ => True)
      iprop(debt c 32 32 ∗ atPos ER (kcell (c, some k)) 1 ∅ 0 ∗ P) := by
  have hx : (rd (F := F) m ρ).expect (kcell (c, some k)) 0 = N := by
    rcases k with ⟨_ | _, j⟩
    · exact expect_send m ρ hk
    · exact expect_recv m ρ hk
  have ec : kcell (c, some k) = ((c : Thread nD τ), .dma q) := by rw [hq]; rfl
  have hL := may_wait m ρ K c k
  have hI := known_inv m ρ K (c, some k)
  rw [ec] at hP hx hI ⊢
  rw [← hq] at hL
  unfold Runs Prog.lift
  iintro ⟨#Hk, HO, Hat, Hc⟩
  ihave HO := (debt_elim c 32 32) $$ HO
  icases HO with ⟨%W, HO⟩
  ihave #HI := hI $$ Hk
  iapply (Rounds.wp_wait_rest_token 𝒱₀ ER (rd m ρ) (c : Thread nD τ) none (κ := K (c, some k))
    (wpE_waitDma2_eq 𝒱₀ (c : Thread nD τ) none Set.univ) (Set.mem_univ _) () (O := owed c (sigT c 32) (sendT c 32)) (W := W) (R := 0) (m := 0) (T := ∅)
    (by rw [Nat.zero_add, hx, hN])) $$ [Hc HO Hat]
  · isplitr; · iexact HI
    isplitl [Hc]; · rw [hN]; iexact Hc
    isplitl [HO]; · iexact HO
    isplitr; · iapply hL; iexact Hk
    iexact Hat
  iintro ⟨HO, Hat, -, Hpay⟩
  rw [wp_ret]
  imodintro
  isplitr; · ipureintro; trivial
  isplitl [HO]; · iapply (debt_intro c 32 32 _); iexact HO
  isplitl [Hat]; · iexact Hat
  iapply (Entails.of_eq hP); iexact Hpay

theorem Runs.frame {c : Dev nD} {α : Type} {P P' R S S' : sProp 𝕄} {p : Prog (TpuEff nD τ sig (Elt F) Λ₀ .tc) α} {φ : α → Prop}
    (h : Runs c P p φ P') (hS : S ⊢ iprop(P ∗ R)) (hS' : iprop(P' ∗ R) ⊢ S') : Runs c S p φ S' := by
  unfold Runs
  refine hS.trans ?_
  iintro ⟨HP, HR⟩
  ihave Hw := (show P ⊢ _ from h) $$ HP
  iapply (wp_wand _ _ _) $$ Hw
  iintro %a ⟨%ha, HP⟩
  isplitr; · ipureintro; exact ha
  iapply hS'
  isplitl [HP]; · iexact HP
  iexact HR

/-- The wait for the copy that the device `r + 1` places on sends. -/
theorem recv_step (c : Dev nD) (r : Fin 31) {off : Fin 1 → ℕ} {inb} (h : off = ![(c.val + r.val + 1) % 32])
    {src dst : Memref sig .tc .vmem S64x64 .f32} (hN : dst.view.dmaCredit = N) {hsrc hdst} :
    Runs c (St m ρ K c 32 32 32 true true (r.val + 1) 1)
      (Prog.lift (.waitDma2 ((cc0_scratch2.slice (Rect.unit (s := S32) off S1.size inb)).squeeze S_ squeezes_S1_S_).sem src dst hsrc hdst))
      (fun _ => True) (St m ρ K c 32 32 32 true true (r.val + 2) 1) := by
  have hc : c.val < 32 := c.isLt
  have hlt := r.isLt
  obtain ⟨s, hs⟩ : ∃ s : Dev nD, s.val = (c.val + r.val + 1) % 32 := ⟨⟨_, Nat.mod_lt _ (by decide)⟩, rfl⟩
  have hr : sigRank c s = r.val + 1 := sigRank_of (by omega) hs
  have hn : s ≠ c := fun h => by rw [h, sigRank_self] at hr; omega
  have e1 : (toRecv c (r.val + 1) : sProp 𝕄)
      = iprop((atPos ER (recvCell c s) 0 ∅ 0 ∗ cred (tallyAt (recvCell c s) () N)) ∗ toRecv c (r.val + 2)) := bigSep_step (sigT_step hr hn) _
  have e2 : (received m ρ c (r.val + 2) : sProp 𝕄)
      = iprop((atPos ER (recvCell c s) 1 ∅ 0 ∗ row c s (outV m ρ c)) ∗ received m ρ c (r.val + 1)) := bigSep_step (sigD_step hr hn) _
  refine Runs.frame (wait_copy m ρ K c (true, s) hn (by rw [recvS_of_off s (by rw [h, hs])]; rfl) (rest_recv m ρ hn) hN)
    (R := iprop(known m ρ K ∗ inputs m ρ c ∗ toSignal c 32 ∗ barrier c true 32 ∗ toFill c 32 ∗ filled m ρ c 32 32 ∗ toSend c 32
      ∗ ownRow m ρ c true ∗ toRecv c (r.val + 2) ∗ received m ρ c (r.val + 1) ∗ flying c 32 1 ∗ toWait c 1 ∗ waited m ρ c 1 ∗ unused c)) ?_ ?_
  · unfold St
    rw [e1]
    iintro ⟨#Hk, H1, HO, H3, H4, H5, H6, H7, H8, ⟨⟨Ha, Hc⟩, H9⟩, H10, H11, H12, H13, H14⟩
    iframe # ∗
  · unfold St
    rw [e2]
    iintro ⟨⟨HO, Ha, Hc⟩, #Hk, H1, H3, H4, H5, H6, H7, H8, H9, H10, H11, H12, H13, H14⟩
    iframe # ∗

/-- The wait for the device's own copy to the device `r + 1` places on. -/
theorem sent_step (c : Dev nD) (r : Fin 31) {off : Fin 1 → ℕ} {inb} (h : off = ![(c.val + r.val + 1) % 32])
    {src dst : Memref sig .tc .vmem S64x64 .f32} (hN : dst.view.dmaCredit = N) {hsrc hdst} :
    Runs c (St m ρ K c 32 32 32 true true 32 (r.val + 1))
      (Prog.lift (.waitDma2 ((cc0_scratch1.slice (Rect.unit (s := S32) off S1.size inb)).squeeze S_ squeezes_S1_S_).sem src dst hsrc hdst))
      (fun _ => True) (St m ρ K c 32 32 32 true true 32 (r.val + 2)) := by
  have hc : c.val < 32 := c.isLt
  have hlt := r.isLt
  obtain ⟨s, hs⟩ : ∃ s : Dev nD, s.val = (c.val + r.val + 1) % 32 := ⟨⟨_, Nat.mod_lt _ (by decide)⟩, rfl⟩
  have hr : sigRank c s = r.val + 1 := sigRank_of (by omega) hs
  have hn : s ≠ c := fun h => by rw [h, sigRank_self] at hr; omega
  have e1 : (flying c 32 (r.val + 1) : sProp 𝕄) = iprop(cred (tallyAt (sendCell c s) () N) ∗ flying c 32 (r.val + 2)) := bigSep_step (fly_wait hr hn) _
  have e2 : (toWait c (r.val + 1) : sProp 𝕄) = iprop(atPos ER (sendCell c s) 0 ∅ 0 ∗ toWait c (r.val + 2)) := bigSep_step (sigT_step hr hn) _
  have e3 : (waited m ρ c (r.val + 2) : sProp 𝕄)
      = iprop((atPos ER (sendCell c s) 1 ∅ 0 ∗ slot c s (commV m ρ c)) ∗ waited m ρ c (r.val + 1)) := bigSep_step (sigD_step hr hn) _
  refine Runs.frame (wait_copy m ρ K c (false, s) hn (by rw [sendS_of_off s (by rw [h, hs])]; rfl) (rest_send m ρ hn) hN)
    (R := iprop(known m ρ K ∗ inputs m ρ c ∗ toSignal c 32 ∗ barrier c true 32 ∗ toFill c 32 ∗ filled m ρ c 32 32 ∗ toSend c 32
      ∗ ownRow m ρ c true ∗ toRecv c 32 ∗ received m ρ c 32 ∗ flying c 32 (r.val + 2) ∗ toWait c (r.val + 2) ∗ waited m ρ c (r.val + 1)
      ∗ unused c)) ?_ ?_
  · unfold St
    rw [e1, e2]
    iintro ⟨#Hk, H1, HO, H3, H4, H5, H6, H7, H8, H9, H10, ⟨Hc, H11⟩, ⟨Ha, H12⟩, H13, H14⟩
    iframe # ∗
  · unfold St
    rw [e3]
    iintro ⟨⟨HO, Ha, Hc⟩, #Hk, H1, H3, H4, H5, H6, H7, H8, H9, H10, H11, H12, H13, H14⟩
    iframe # ∗

end Cert.AllToAll

end
-- ==== Proof.Parts.lean ====
/-
# The program, part by part

The program text is cut into 39 parts. For each part: from which state to which it takes a device, and what the values it
passes on are. Together, that the program takes every device from the first state to the last.
-/

module

public import proofs.«01_k».proof.Proof.Steps

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-- A part of the program, or the program, at the buffers and semaphores it is run with. -/
abbrev onBufs {β : Type*} (p : (arg0 : Memref sig .tc .vmem S64x2048 .f32) → arg0.IsWhole → (arg1 : Memref sig .tc .vmem S2048x2048 .f32) → arg1.IsWhole
    → (arg2 : Memref sig .tc .vmem S2048x64 .f32) → arg2.IsWhole → (arg3 : Memref sig .tc .vmem S32x64x64 .f32) → arg3.IsWhole
    → DmaSems sig S32 → DmaSems sig S32 → β) : β :=
  p xM (Memref.isWhole_whole _) wM (Memref.isWhole_whole _) oM (Memref.isWhole_whole _) cM (Memref.isWhole_whole _) cc0_scratch1 cc0_scratch2

/-- The semaphore of the barrier, as the program names it. -/
def barrierS : Sems sig S_ := SemArray.scalar (sig.barrier 0 rfl)

/-- The `i`-th group of 64 columns of a product of 512. -/
def colsOf (y : FVec F S64x512 .f32) (i : Fin 8) : FVec F S64x64 .f32 :=
  extractStridedSlice S64x64 ![0, 64 * i.val] y (slices_at i)

/-- The rows a device multiplies, as the program holds them. -/
def rowsV (c : Dev nD) : FVec F S64x2048 .f32 := k0_pay1 (xst m ρ c)

/-! ## Operations that recur -/

section
variable {m ρ K} {c : Dev nD}

/-- The signal to the device `s` places on. -/
theorem signal_then {β : Type} {s a n v w : ℕ} {done : Bool} {d : ℕ} {hd : d < nD} {k : PUnit → Prog (TpuEff nD τ sig (Elt F) Λ₀ .tc) β} {ψ : β → Prop} {P : sProp 𝕄}
    (h : d = (c.val + s) % 32) (h' : Runs c (St m ρ K c (s + 1) a n false done v w) (k ⟨⟩) ψ P) (hs : 1 ≤ s ∧ s < 32 := by decide) :
    Runs c (St m ρ K c s a n false done v w) (semSignalWord (⟨d, hd⟩ : Dev nD) barrierS.sem 1#32 >>= k) ψ P :=
  Runs.bind (signal_step m ρ K c ⟨d, hd⟩ hs h) fun _ _ => h'

/-- The reading and the filling of the slot that round `r` fills `i`-th. -/
theorem fill_then {β : Type} {s n v w : ℕ} {past done : Bool} (r : Fin 4) (i : Fin 8) {inb inb'} {p} {hl hx hm}
    {k : PUnit → Prog (TpuEff nD τ sig (Elt F) Λ₀ .tc) β} {ψ : β → Prop} {P : sProp 𝕄}
    (h' : Runs c (St m ρ K c s (8 * r.val + i.val + 1) n past done v w) (k ⟨⟩) ψ P)
    (hp : p = slotPay (prodV m ρ c (blkOf c r.val)) i := by rfl) (hn : n ≤ 8 * r.val := by decide) :
    Runs c (St m ρ K c s (8 * r.val + i.val) n past done v w)
      (Prog.lift (.load cM (Rect.unit (s := S32x64x64) (k0_off2 c (BitVec.ofNat 32 r.val) (BitVec.ofNat 32 i.val)) S1x64x64.size inb).toLoadRect hl) >>= fun _ =>
        Prog.lift (.store cM (Rect.unit (s := S32x64x64) (k0_off2 c (BitVec.ofNat 32 r.val) (BitVec.ofNat 32 i.val)) S1x64x64.size inb') p Finset.univ hx hm) >>= k) ψ P :=
  Runs.bind (fill_load_step m ρ K c r.val i r.isLt rfl (k0_off2_eq c r i)) fun _ _ =>
    Runs.bind (fill_step m ρ K c r.val i r.isLt rfl (by have := i.isLt; omega) (k0_off2_eq c r i) hp) fun _ _ => h'

/-- The wait for the copy of the device `r + 1` places on. -/
theorem recv_then {β : Type} (r : Fin 31) {inb : ∀ a, k0_off133 c (BitVec.ofNat 32 (1 + r.val)) a + S1.size a ≤ S32.size a} {o : Fin 2 → ℕ} {inb'} {src : Memref sig .tc .vmem S64x64 .f32} {hsrc hdst}
    {k : PUnit → Prog (TpuEff nD τ sig (Elt F) Λ₀ .tc) β} {ψ : β → Prop} {P : sProp 𝕄}
    (h' : Runs c (St m ρ K c 32 32 32 true true (r.val + 2) 1) (k ⟨⟩) ψ P) :
    Runs c (St m ρ K c 32 32 32 true true (r.val + 1) 1)
      (Prog.lift (.waitDma2 ((cc0_scratch2.slice (Rect.unit (s := S32) (k0_off133 c (BitVec.ofNat 32 (1 + r.val))) S1.size inb)).squeeze S_ squeezes_S1_S_).sem
        src (rowV o inb') hsrc hdst) >>= k) ψ P :=
  Runs.bind (recv_step m ρ K c r (k0_off133_eq c r) (rowV_credit _ _)) fun _ _ => h'

/-- The wait for the device's own copy to the device `r + 1` places on. -/
theorem sent_then {β : Type} (r : Fin 31) {inb : ∀ a, k0_off133 c (BitVec.ofNat 32 (1 + r.val)) a + S1.size a ≤ S32.size a} {o : Fin 3 → ℕ} {inb'} {src : Memref sig .tc .vmem S64x64 .f32} {hsrc hdst}
    {k : PUnit → Prog (TpuEff nD τ sig (Elt F) Λ₀ .tc) β} {ψ : β → Prop} {P : sProp 𝕄}
    (h' : Runs c (St m ρ K c 32 32 32 true true 32 (r.val + 2)) (k ⟨⟩) ψ P) :
    Runs c (St m ρ K c 32 32 32 true true 32 (r.val + 1))
      (Prog.lift (.waitDma2 ((cc0_scratch1.slice (Rect.unit (s := S32) (k0_off133 c (BitVec.ofNat 32 (1 + r.val))) S1.size inb)).squeeze S_ squeezes_S1_S_).sem
        src (slotV o inb') hsrc hdst) >>= k) ψ P :=
  Runs.bind (sent_step m ρ K c r (k0_off133_eq c r) (slotV_credit _ _)) fun _ _ => h'

end

/-! ## The parts -/

/-- A device asks for its own number. -/
theorem device_step (c : Dev nD) {P : sProp 𝕄} : Runs (F := F) c P (Prog.lift .deviceId) (fun d => c = d) P := by
  unfold Runs Prog.lift
  rw [wp_deviceId]
  exact Runs.pure (F := F) (c := c) (P := P) (a := c) (φ := fun d => c = d) rfl

attribute [local irreducible] Runs St

/-- Part 1: signals 1 to 5. -/
theorem part1 (c : Dev nD) :
    Runs c (St m ρ K c 1 0 0 false false 1 1)
      (onBufs (k0_part1 (F := F)))
      (fun y => c = y.1 ∧ y.2.2.2.1 = barrierS)
      (St m ρ K c 6 0 0 false false 1 1) := by
  rw [k0_part1_eq_skeleton]
  unfold onBufs k0_part1_skel
  refine Runs.bind (device_step c) fun d hd => ?_
  subst hd
  refine signal_then (k0_dev1_eq c) ?_
  refine signal_then (k0_dev2_eq c) ?_
  refine signal_then (k0_dev3_eq c) ?_
  refine signal_then (k0_dev4_eq c) ?_
  refine signal_then (k0_dev5_eq c) ?_
  exact Runs.pure ⟨rfl, rfl⟩

/-- Part 2: signals 6 to 11. -/
theorem part2 (c : Dev nD) (v2 : BitVec 32) (c6_i32 : BitVec 32) :
    Runs c (St m ρ K c 6 0 0 false false 1 1)
      (onBufs (k0_part2 (F := F)) c v2 barrierS c6_i32)
      (fun _ => True)
      (St m ρ K c 12 0 0 false false 1 1) := by
  rw [k0_part2_eq_skeleton]
  unfold onBufs k0_part2_skel
  refine signal_then (k0_dev6_eq c) ?_
  refine signal_then (k0_dev7_eq c) ?_
  refine signal_then (k0_dev8_eq c) ?_
  refine signal_then (k0_dev9_eq c) ?_
  refine signal_then (k0_dev10_eq c) ?_
  refine signal_then (k0_dev11_eq c) ?_
  exact Runs.pure trivial

/-- Part 3: signals 12 to 17. -/
theorem part3 (c : Dev nD) (v2 : BitVec 32) (c12_i32 : BitVec 32) :
    Runs c (St m ρ K c 12 0 0 false false 1 1)
      (onBufs (k0_part3 (F := F)) c v2 barrierS c12_i32)
      (fun _ => True)
      (St m ρ K c 18 0 0 false false 1 1) := by
  rw [k0_part3_eq_skeleton]
  unfold onBufs k0_part3_skel
  refine signal_then (k0_dev12_eq c) ?_
  refine signal_then (k0_dev13_eq c) ?_
  refine signal_then (k0_dev14_eq c) ?_
  refine signal_then (k0_dev15_eq c) ?_
  refine signal_then (k0_dev16_eq c) ?_
  refine signal_then (k0_dev17_eq c) ?_
  exact Runs.pure trivial

/-- Part 4: signals 18 to 23. -/
theorem part4 (c : Dev nD) (v2 : BitVec 32) (c18_i32 : BitVec 32) :
    Runs c (St m ρ K c 18 0 0 false false 1 1)
      (onBufs (k0_part4 (F := F)) c v2 barrierS c18_i32)
      (fun _ => True)
      (St m ρ K c 24 0 0 false false 1 1) := by
  rw [k0_part4_eq_skeleton]
  unfold onBufs k0_part4_skel
  refine signal_then (k0_dev18_eq c) ?_
  refine signal_then (k0_dev19_eq c) ?_
  refine signal_then (k0_dev20_eq c) ?_
  refine signal_then (k0_dev21_eq c) ?_
  refine signal_then (k0_dev22_eq c) ?_
  refine signal_then (k0_dev23_eq c) ?_
  exact Runs.pure trivial

/-- Part 5: signals 24 to 29. -/
theorem part5 (c : Dev nD) (v2 : BitVec 32) (c24_i32 : BitVec 32) :
    Runs c (St m ρ K c 24 0 0 false false 1 1)
      (onBufs (k0_part5 (F := F)) c v2 barrierS c24_i32)
      (fun _ => True)
      (St m ρ K c 30 0 0 false false 1 1) := by
  rw [k0_part5_eq_skeleton]
  unfold onBufs k0_part5_skel
  refine signal_then (k0_dev24_eq c) ?_
  refine signal_then (k0_dev25_eq c) ?_
  refine signal_then (k0_dev26_eq c) ?_
  refine signal_then (k0_dev27_eq c) ?_
  refine signal_then (k0_dev28_eq c) ?_
  refine signal_then (k0_dev29_eq c) ?_
  exact Runs.pure trivial

/-- Part 6: signals 30 to 31; reads the rows; reads the columns of round 0; fills slots 0 to 1 of round 0. -/
theorem part6 (c : Dev nD) (v2 : BitVec 32) (v3 : BitVec 32) (c30_i32 : BitVec 32) :
    Runs c (St m ρ K c 30 0 0 false false 1 1)
      (onBufs (k0_part6 (F := F)) c v2 v3 barrierS c30_i32)
      (fun y => y.1 = rowsV m ρ c ∧ y.2.2.1 = prodV m ρ c (blkOf c 0) ∧ y.2.2.2 = colsOf (prodV m ρ c (blkOf c 0)) 2)
      (St m ρ K c 32 2 0 false false 1 1) := by
  rw [k0_part6_eq_skeleton]
  unfold onBufs k0_part6_skel
  refine signal_then (k0_dev30_eq c) ?_
  refine signal_then (k0_dev31_eq c) ?_
  refine Runs.bind (load_x_step m ρ K c) fun x hx => ?_
  subst hx
  refine Runs.bind (load_w_step m ρ K c (blkOf c 0) (k0_off1_eq c 0)) fun x hx => ?_
  subst hx
  refine fill_then 0 0 ?_
  refine fill_then 0 1 ?_
  exact Runs.pure ⟨rfl, rfl, rfl⟩

/-- Part 7: fills slots 2 to 6 of round 0. -/
theorem part7 (c : Dev nD) (v132 : BitVec 32) :
    Runs c (St m ρ K c 32 2 0 false false 1 1)
      (onBufs (k0_part7 (F := F)) c v132 (prodV m ρ c (blkOf c 0)) (colsOf (prodV m ρ c (blkOf c 0)) 2))
      (fun y => y = colsOf (prodV m ρ c (blkOf c 0)) 7)
      (St m ρ K c 32 7 0 false false 1 1) := by
  rw [k0_part7_eq_skeleton]
  unfold onBufs k0_part7_skel
  refine fill_then 0 2 ?_
  refine fill_then 0 3 ?_
  refine fill_then 0 4 ?_
  refine fill_then 0 5 ?_
  refine fill_then 0 6 ?_
  exact Runs.pure rfl

/-- Part 8: fills slots 7 of round 0; waits at the barrier; sends 1 to 3. -/
theorem part8 (c : Dev nD) (v2 : BitVec 32) (v132 : BitVec 32) :
    Runs c (St m ρ K c 32 7 0 false false 1 1)
      (onBufs (k0_part8 (F := F)) c v2 barrierS v132 (colsOf (prodV m ρ c (blkOf c 0)) 7))
      (fun _ => True)
      (St m ρ K c 32 8 3 true false 1 1) := by
  rw [k0_part8_eq_skeleton]
  unfold onBufs k0_part8_skel
  have hc : c.val < 32 := c.isLt
  refine fill_then 0 7 ?_
  refine Runs.bind (barrier_step m ρ K c) fun _ _ => ?_
  refine send_then m ρ K 0 0 ((by decide +kernel : ∀ d : Dev nD, k0_cond1 d = 1#1) c) (k0_dev32_eq c) (k0_off3_eq c) (k0_off4_eq c)
    (k0_off5_eq c) (k0_off6_eq c) ?_ (by omega)
  refine send_then m ρ K 0 1 ((by decide +kernel : ∀ d : Dev nD, k0_cond2 d = 1#1) c) (k0_dev33_eq c) (k0_off7_eq c) (k0_off8_eq c)
    (k0_off9_eq c) (k0_off10_eq c) ?_ (by omega)
  refine send_then m ρ K 0 2 ((by decide +kernel : ∀ d : Dev nD, k0_cond3 d = 1#1) c) (k0_dev34_eq c) (k0_off11_eq c) (k0_off12_eq c)
    (k0_off13_eq c) (k0_off14_eq c) ?_ (by omega)
  exact Runs.pure trivial

/-- Part 9: sends 4 to 7. -/
theorem part9 (c : Dev nD) (v2 : BitVec 32) (v132 : BitVec 32) (v218 : BitVec 32) (v219 : BitVec 32) :
    Runs c (St m ρ K c 32 8 3 true false 1 1)
      (onBufs (k0_part9 (F := F)) c v2 v132 v218 v219)
      (fun _ => True)
      (St m ρ K c 32 8 7 true false 1 1) := by
  rw [k0_part9_eq_skeleton]
  unfold onBufs k0_part9_skel
  have hc : c.val < 32 := c.isLt
  refine send_then m ρ K 0 3 ((by decide +kernel : ∀ d : Dev nD, k0_cond4 d = 1#1) c) (k0_dev35_eq c) (k0_off15_eq c) (k0_off16_eq c)
    (k0_off17_eq c) (k0_off18_eq c) ?_ (by omega)
  refine send_then m ρ K 0 4 ((by decide +kernel : ∀ d : Dev nD, k0_cond5 d = 1#1) c) (k0_dev36_eq c) (k0_off19_eq c) (k0_off20_eq c)
    (k0_off21_eq c) (k0_off22_eq c) ?_ (by omega)
  refine send_then m ρ K 0 5 ((by decide +kernel : ∀ d : Dev nD, k0_cond6 d = 1#1) c) (k0_dev37_eq c) (k0_off23_eq c) (k0_off24_eq c)
    (k0_off25_eq c) (k0_off26_eq c) ?_ (by omega)
  refine send_then m ρ K 0 6 ((by decide +kernel : ∀ d : Dev nD, k0_cond7 d = 1#1) c) (k0_dev38_eq c) (k0_off27_eq c) (k0_off28_eq c)
    (k0_off29_eq c) (k0_off30_eq c) ?_ (by omega)
  exact Runs.pure trivial

/-- Part 10: the send 8, which is not made; reads the columns of round 1; fills slots 0 to 2 of round 1. -/
theorem part10 (c : Dev nD) (v2 : BitVec 32) (v3 : BitVec 32) (v250 : BitVec 32) (v253 : BitVec 32) :
    Runs c (St m ρ K c 32 8 7 true false 1 1)
      (onBufs (k0_part10 (F := F)) c v2 v3 (rowsV m ρ c) v250 v253)
      (fun y => y.2.1 = prodV m ρ c (blkOf c 1) ∧ y.2.2 = colsOf (prodV m ρ c (blkOf c 1)) 3)
      (St m ρ K c 32 11 8 true false 1 1) := by
  rw [k0_part10_eq_skeleton]
  unfold onBufs k0_part10_skel
  refine own_send_then m ρ K ((by decide +kernel : ∀ d : Dev nD, ¬ k0_cond8 d = 1#1) c) ?_
  refine Runs.bind (load_w_step m ρ K c (blkOf c 1) (k0_off1_eq c 1)) fun x hx => ?_
  subst hx
  refine fill_then 1 0 ?_
  refine fill_then 1 1 ?_
  refine fill_then 1 2 ?_
  exact Runs.pure ⟨rfl, rfl⟩

/-- Part 11: fills slots 3 to 7 of round 1. -/
theorem part11 (c : Dev nD) (v2 : BitVec 32) (v259 : BitVec 32) :
    Runs c (St m ρ K c 32 11 8 true false 1 1)
      (onBufs (k0_part11 (F := F)) c v2 v259 (prodV m ρ c (blkOf c 1)) (colsOf (prodV m ρ c (blkOf c 1)) 3))
      (fun _ => True)
      (St m ρ K c 32 16 8 true false 1 1) := by
  rw [k0_part11_eq_skeleton]
  unfold onBufs k0_part11_skel
  refine fill_then 1 3 ?_
  refine fill_then 1 4 ?_
  refine fill_then 1 5 ?_
  refine fill_then 1 6 ?_
  refine fill_then 1 7 ?_
  exact Runs.pure trivial

/-- Part 12: sends 9 to 12. -/
theorem part12 (c : Dev nD) (v2 : BitVec 32) (v259 : BitVec 32) (v321 : BitVec 32) (v323 : BitVec 32) :
    Runs c (St m ρ K c 32 16 8 true false 1 1)
      (onBufs (k0_part12 (F := F)) c v2 v259 v321 v323)
      (fun _ => True)
      (St m ρ K c 32 16 12 true false 1 1) := by
  rw [k0_part12_eq_skeleton]
  unfold onBufs k0_part12_skel
  have hc : c.val < 32 := c.isLt
  refine send_then m ρ K 1 0 ((by decide +kernel : ∀ d : Dev nD, k0_cond9 d = 1#1) c) (k0_dev40_eq c) (k0_off35_eq c) (k0_off36_eq c)
    (k0_off37_eq c) (k0_off38_eq c) ?_ (by omega)
  refine send_then m ρ K 1 1 ((by decide +kernel : ∀ d : Dev nD, k0_cond10 d = 1#1) c) (k0_dev41_eq c) (k0_off39_eq c) (k0_off40_eq c)
    (k0_off41_eq c) (k0_off42_eq c) ?_ (by omega)
  refine send_then m ρ K 1 2 ((by decide +kernel : ∀ d : Dev nD, k0_cond11 d = 1#1) c) (k0_dev42_eq c) (k0_off43_eq c) (k0_off44_eq c)
    (k0_off45_eq c) (k0_off46_eq c) ?_ (by omega)
  refine send_then m ρ K 1 3 ((by decide +kernel : ∀ d : Dev nD, k0_cond12 d = 1#1) c) (k0_dev43_eq c) (k0_off47_eq c) (k0_off48_eq c)
    (k0_off49_eq c) (k0_off50_eq c) ?_ (by omega)
  exact Runs.pure trivial

/-- Part 13: sends 13 to 16; reads the columns of round 2. -/
theorem part13 (c : Dev nD) (v2 : BitVec 32) (v3 : BitVec 32) (v259 : BitVec 32) (v357 : BitVec 32) (v358 : BitVec 1) :
    Runs c (St m ρ K c 32 16 12 true false 1 1)
      (onBufs (k0_part13 (F := F)) c v2 v3 (rowsV m ρ c) v259 v357 v358)
      (fun y => y.2.1 = prodV m ρ c (blkOf c 2) ∧ y.2.2.1 = colsOf (prodV m ρ c (blkOf c 2)) 0)
      (St m ρ K c 32 16 16 true false 1 1) := by
  rw [k0_part13_eq_skeleton]
  unfold onBufs k0_part13_skel
  have hc : c.val < 32 := c.isLt
  refine send_then m ρ K 1 4 ((by decide +kernel : ∀ d : Dev nD, k0_cond13 d = 1#1) c) (k0_dev44_eq c) (k0_off51_eq c) (k0_off52_eq c)
    (k0_off53_eq c) (k0_off54_eq c) ?_ (by omega)
  refine send_then m ρ K 1 5 ((by decide +kernel : ∀ d : Dev nD, k0_cond14 d = 1#1) c) (k0_dev45_eq c) (k0_off55_eq c) (k0_off56_eq c)
    (k0_off57_eq c) (k0_off58_eq c) ?_ (by omega)
  refine send_then m ρ K 1 6 ((by decide +kernel : ∀ d : Dev nD, k0_cond15 d = 1#1) c) (k0_dev46_eq c) (k0_off59_eq c) (k0_off60_eq c)
    (k0_off61_eq c) (k0_off62_eq c) ?_ (by omega)
  refine send_then m ρ K 1 7 ((by decide +kernel : ∀ d : Dev nD, k0_cond16 d = 1#1) c) (k0_dev47_eq c) (k0_off63_eq c) (k0_off64_eq c)
    (k0_off65_eq c) (k0_off66_eq c) ?_ (by omega)
  refine Runs.bind (load_w_step m ρ K c (blkOf c 2) (k0_off1_eq c 2)) fun x hx => ?_
  subst hx
  exact Runs.pure ⟨rfl, rfl⟩

/-- Part 14: fills slots 0 to 4 of round 2. -/
theorem part14 (c : Dev nD) (v386 : BitVec 32) (c8_i32_284 : BitVec 32) :
    Runs c (St m ρ K c 32 16 16 true false 1 1)
      (onBufs (k0_part14 (F := F)) c v386 (prodV m ρ c (blkOf c 2)) (colsOf (prodV m ρ c (blkOf c 2)) 0) c8_i32_284)
      (fun y => y.1 = colsOf (prodV m ρ c (blkOf c 2)) 5)
      (St m ρ K c 32 21 16 true false 1 1) := by
  rw [k0_part14_eq_skeleton]
  unfold onBufs k0_part14_skel
  refine fill_then 2 0 ?_
  refine fill_then 2 1 ?_
  refine fill_then 2 2 ?_
  refine fill_then 2 3 ?_
  refine fill_then 2 4 ?_
  exact Runs.pure rfl

/-- Part 15: fills slots 5 to 7 of round 2; sends 17. -/
theorem part15 (c : Dev nD) (v2 : BitVec 32) (v386 : BitVec 32) (c8_i32_304 : BitVec 32) :
    Runs c (St m ρ K c 32 21 16 true false 1 1)
      (onBufs (k0_part15 (F := F)) c v2 v386 (prodV m ρ c (blkOf c 2)) (colsOf (prodV m ρ c (blkOf c 2)) 5) c8_i32_304)
      (fun _ => True)
      (St m ρ K c 32 24 17 true false 1 1) := by
  rw [k0_part15_eq_skeleton]
  unfold onBufs k0_part15_skel
  have hc : c.val < 32 := c.isLt
  refine fill_then 2 5 ?_
  refine fill_then 2 6 ?_
  refine fill_then 2 7 ?_
  refine send_then m ρ K 2 0 ((by decide +kernel : ∀ d : Dev nD, k0_cond17 d = 1#1) c) (k0_dev48_eq c) (k0_off67_eq c) (k0_off68_eq c)
    (k0_off69_eq c) (k0_off70_eq c) ?_ (by omega)
  exact Runs.pure trivial

/-- Part 16: sends 18 to 22. -/
theorem part16 (c : Dev nD) (v2 : BitVec 32) (v386 : BitVec 32) (v460 : BitVec 32) (v462 : BitVec 32) (c0_i32_325 : BitVec 32) :
    Runs c (St m ρ K c 32 24 17 true false 1 1)
      (onBufs (k0_part16 (F := F)) c v2 v386 v460 v462 c0_i32_325)
      (fun _ => True)
      (St m ρ K c 32 24 22 true false 1 1) := by
  rw [k0_part16_eq_skeleton]
  unfold onBufs k0_part16_skel
  have hc : c.val < 32 := c.isLt
  refine send_then m ρ K 2 1 ((by decide +kernel : ∀ d : Dev nD, k0_cond18 d = 1#1) c) (k0_dev49_eq c) (k0_off71_eq c) (k0_off72_eq c)
    (k0_off73_eq c) (k0_off74_eq c) ?_ (by omega)
  refine send_then m ρ K 2 2 ((by decide +kernel : ∀ d : Dev nD, k0_cond19 d = 1#1) c) (k0_dev50_eq c) (k0_off75_eq c) (k0_off76_eq c)
    (k0_off77_eq c) (k0_off78_eq c) ?_ (by omega)
  refine send_then m ρ K 2 3 ((by decide +kernel : ∀ d : Dev nD, k0_cond20 d = 1#1) c) (k0_dev51_eq c) (k0_off79_eq c) (k0_off80_eq c)
    (k0_off81_eq c) (k0_off82_eq c) ?_ (by omega)
  refine send_then m ρ K 2 4 ((by decide +kernel : ∀ d : Dev nD, k0_cond21 d = 1#1) c) (k0_dev52_eq c) (k0_off83_eq c) (k0_off84_eq c)
    (k0_off85_eq c) (k0_off86_eq c) ?_ (by omega)
  refine send_then m ρ K 2 5 ((by decide +kernel : ∀ d : Dev nD, k0_cond22 d = 1#1) c) (k0_dev53_eq c) (k0_off87_eq c) (k0_off88_eq c)
    (k0_off89_eq c) (k0_off90_eq c) ?_ (by omega)
  exact Runs.pure trivial

/-- Part 17: sends 23 to 24; reads the columns of round 3; fills slots 0 of round 3. -/
theorem part17 (c : Dev nD) (v2 : BitVec 32) (v3 : BitVec 32) (v386 : BitVec 32) (v496 : BitVec 32) :
    Runs c (St m ρ K c 32 24 22 true false 1 1)
      (onBufs (k0_part17 (F := F)) c v2 v3 (rowsV m ρ c) v386 v496)
      (fun y => y.2.1 = prodV m ρ c (blkOf c 3) ∧ y.2.2 = colsOf (prodV m ρ c (blkOf c 3)) 1)
      (St m ρ K c 32 25 24 true false 1 1) := by
  rw [k0_part17_eq_skeleton]
  unfold onBufs k0_part17_skel
  have hc : c.val < 32 := c.isLt
  refine send_then m ρ K 2 6 ((by decide +kernel : ∀ d : Dev nD, k0_cond23 d = 1#1) c) (k0_dev54_eq c) (k0_off91_eq c) (k0_off92_eq c)
    (k0_off93_eq c) (k0_off94_eq c) ?_ (by omega)
  refine send_then m ρ K 2 7 ((by decide +kernel : ∀ d : Dev nD, k0_cond24 d = 1#1) c) (k0_dev55_eq c) (k0_off95_eq c) (k0_off96_eq c)
    (k0_off97_eq c) (k0_off98_eq c) ?_ (by omega)
  refine Runs.bind (load_w_step m ρ K c (blkOf c 3) (k0_off1_eq c 3)) fun x hx => ?_
  subst hx
  refine fill_then 3 0 ?_
  refine Runs.bind (fill_load_step m ρ K c 3 1 (by decide) rfl (k0_off2_eq c 3 1)) fun _ _ => ?_
  exact Runs.pure ⟨rfl, rfl⟩

/-- Part 18: fills slots 1 to 5 of round 3. -/
theorem part18 (c : Dev nD) (v513 : BitVec 32) :
    Runs c (St m ρ K c 32 25 24 true false 1 1)
      (onBufs (k0_part18 (F := F)) c v513 (prodV m ρ c (blkOf c 3)) (colsOf (prodV m ρ c (blkOf c 3)) 1))
      (fun y => y = colsOf (prodV m ρ c (blkOf c 3)) 6)
      (St m ρ K c 32 30 24 true false 1 1) := by
  rw [k0_part18_eq_skeleton]
  unfold onBufs k0_part18_skel
  refine Runs.bind (fill_step m ρ K c 3 1 (by decide) rfl (by decide) (k0_off2_eq c 3 1) rfl) fun _ _ => ?_
  refine fill_then 3 2 ?_
  refine fill_then 3 3 ?_
  refine fill_then 3 4 ?_
  refine fill_then 3 5 ?_
  refine Runs.bind (fill_load_step m ρ K c 3 6 (by decide) rfl (k0_off2_eq c 3 6)) fun _ _ => ?_
  exact Runs.pure rfl

/-- Part 19: fills slots 6 to 7 of round 3; sends 25 to 27. -/
theorem part19 (c : Dev nD) (v2 : BitVec 32) (v513 : BitVec 32) :
    Runs c (St m ρ K c 32 30 24 true false 1 1)
      (onBufs (k0_part19 (F := F)) c v2 v513 (prodV m ρ c (blkOf c 3)) (colsOf (prodV m ρ c (blkOf c 3)) 6))
      (fun _ => True)
      (St m ρ K c 32 32 27 true false 1 1) := by
  rw [k0_part19_eq_skeleton]
  unfold onBufs k0_part19_skel
  have hc : c.val < 32 := c.isLt
  refine Runs.bind (fill_step m ρ K c 3 6 (by decide) rfl (by decide) (k0_off2_eq c 3 6) rfl) fun _ _ => ?_
  refine fill_then 3 7 ?_
  refine send_then m ρ K 3 0 ((by decide +kernel : ∀ d : Dev nD, k0_cond25 d = 1#1) c) (k0_dev56_eq c) (k0_off99_eq c) (k0_off100_eq c)
    (k0_off101_eq c) (k0_off102_eq c) ?_ (by omega)
  refine send_then m ρ K 3 1 ((by decide +kernel : ∀ d : Dev nD, k0_cond26 d = 1#1) c) (k0_dev57_eq c) (k0_off103_eq c) (k0_off104_eq c)
    (k0_off105_eq c) (k0_off106_eq c) ?_ (by omega)
  refine send_then m ρ K 3 2 ((by decide +kernel : ∀ d : Dev nD, k0_cond27 d = 1#1) c) (k0_dev58_eq c) (k0_off107_eq c) (k0_off108_eq c)
    (k0_off109_eq c) (k0_off110_eq c) ?_ (by omega)
  exact Runs.pure trivial

/-- Part 20: sends 28 to 31. -/
theorem part20 (c : Dev nD) (v2 : BitVec 32) (v513 : BitVec 32) (v599 : BitVec 32) (v600 : BitVec 32) :
    Runs c (St m ρ K c 32 32 27 true false 1 1)
      (onBufs (k0_part20 (F := F)) c v2 v513 v599 v600)
      (fun _ => True)
      (St m ρ K c 32 32 31 true false 1 1) := by
  rw [k0_part20_eq_skeleton]
  unfold onBufs k0_part20_skel
  have hc : c.val < 32 := c.isLt
  refine send_then m ρ K 3 3 ((by decide +kernel : ∀ d : Dev nD, k0_cond28 d = 1#1) c) (k0_dev59_eq c) (k0_off111_eq c) (k0_off112_eq c)
    (k0_off113_eq c) (k0_off114_eq c) ?_ (by omega)
  refine send_then m ρ K 3 4 ((by decide +kernel : ∀ d : Dev nD, k0_cond29 d = 1#1) c) (k0_dev60_eq c) (k0_off115_eq c) (k0_off116_eq c)
    (k0_off117_eq c) (k0_off118_eq c) ?_ (by omega)
  refine send_then m ρ K 3 5 ((by decide +kernel : ∀ d : Dev nD, k0_cond30 d = 1#1) c) (k0_dev61_eq c) (k0_off119_eq c) (k0_off120_eq c)
    (k0_off121_eq c) (k0_off122_eq c) ?_ (by omega)
  refine send_then m ρ K 3 6 ((by decide +kernel : ∀ d : Dev nD, k0_cond31 d = 1#1) c) (k0_dev62_eq c) (k0_off123_eq c) (k0_off124_eq c)
    (k0_off125_eq c) (k0_off126_eq c) ?_ (by omega)
  exact Runs.pure trivial

/-- Part 21: sends 32; keeps the device's own block of rows; waits for the incoming copies 1 to 2. -/
theorem part21 (c : Dev nD) (v2 : BitVec 32) (v631 : BitVec 32) (v634 : BitVec 32) :
    Runs c (St m ρ K c 32 32 31 true false 1 1)
      (onBufs (k0_part21 (F := F)) c v2 v631 v634)
      (fun _ => True)
      (St m ρ K c 32 32 32 true true 3 1) := by
  rw [k0_part21_eq_skeleton]
  unfold onBufs k0_part21_skel
  have hc : c.val < 32 := c.isLt
  refine send_then m ρ K 3 7 ((by decide +kernel : ∀ d : Dev nD, k0_cond32 d = 1#1) c) (k0_dev63_eq c) (k0_off127_eq c) (k0_off128_eq c)
    (k0_off129_eq c) (k0_off130_eq c) ?_ (by omega)
  refine Runs.bind (own_load_step m ρ K c (k0_off131_eq c)) fun y hy => ?_
  subst hy
  refine Runs.bind (own_read_step m ρ K c (k0_off132_eq c)) fun _ _ => ?_
  refine Runs.bind (own_store_step m ρ K c (k0_off132_eq c) (k0_off131_eq c) rfl) fun _ _ => ?_
  refine recv_then 0 ?_
  refine recv_then 1 ?_
  exact Runs.pure trivial

/-- Part 22: waits for the incoming copies 3 to 5. -/
theorem part22 (c : Dev nD) (v2 : BitVec 32) (v666 : BitVec 32) (c64_i32_454 : BitVec 32) :
    Runs c (St m ρ K c 32 32 32 true true 3 1)
      (onBufs (k0_part22 (F := F)) c v2 v666 c64_i32_454)
      (fun _ => True)
      (St m ρ K c 32 32 32 true true 6 1) := by
  rw [k0_part22_eq_skeleton]
  unfold onBufs k0_part22_skel
  refine recv_then 2 ?_
  refine recv_then 3 ?_
  refine recv_then 4 ?_
  exact Runs.pure trivial

/-- Part 23: waits for the incoming copies 6 to 8. -/
theorem part23 (c : Dev nD) (v2 : BitVec 32) (v698 : BitVec 32) :
    Runs c (St m ρ K c 32 32 32 true true 6 1)
      (onBufs (k0_part23 (F := F)) c v2 v698)
      (fun _ => True)
      (St m ρ K c 32 32 32 true true 9 1) := by
  rw [k0_part23_eq_skeleton]
  unfold onBufs k0_part23_skel
  refine recv_then 5 ?_
  refine recv_then 6 ?_
  refine recv_then 7 ?_
  exact Runs.pure trivial

/-- Part 24: waits for the incoming copies 9 to 11. -/
theorem part24 (c : Dev nD) (v2 : BitVec 32) :
    Runs c (St m ρ K c 32 32 32 true true 9 1)
      (onBufs (k0_part24 (F := F)) c v2)
      (fun _ => True)
      (St m ρ K c 32 32 32 true true 12 1) := by
  rw [k0_part24_eq_skeleton]
  unfold onBufs k0_part24_skel
  refine recv_then 8 ?_
  refine recv_then 9 ?_
  refine recv_then 10 ?_
  exact Runs.pure trivial

/-- Part 25: waits for the incoming copies 12 to 14. -/
theorem part25 (c : Dev nD) (v2 : BitVec 32) :
    Runs c (St m ρ K c 32 32 32 true true 12 1)
      (onBufs (k0_part25 (F := F)) c v2)
      (fun _ => True)
      (St m ρ K c 32 32 32 true true 15 1) := by
  rw [k0_part25_eq_skeleton]
  unfold onBufs k0_part25_skel
  refine recv_then 11 ?_
  refine recv_then 12 ?_
  refine recv_then 13 ?_
  exact Runs.pure trivial

/-- Part 26: waits for the incoming copies 15 to 18. -/
theorem part26 (c : Dev nD) (v2 : BitVec 32) :
    Runs c (St m ρ K c 32 32 32 true true 15 1)
      (onBufs (k0_part26 (F := F)) c v2)
      (fun _ => True)
      (St m ρ K c 32 32 32 true true 19 1) := by
  rw [k0_part26_eq_skeleton]
  unfold onBufs k0_part26_skel
  refine recv_then 14 ?_
  refine recv_then 15 ?_
  refine recv_then 16 ?_
  refine recv_then 17 ?_
  exact Runs.pure trivial

/-- Part 27: waits for the incoming copies 19 to 21. -/
theorem part27 (c : Dev nD) (v2 : BitVec 32) (c19_i32_580 : BitVec 32) :
    Runs c (St m ρ K c 32 32 32 true true 19 1)
      (onBufs (k0_part27 (F := F)) c v2 c19_i32_580)
      (fun _ => True)
      (St m ρ K c 32 32 32 true true 22 1) := by
  rw [k0_part27_eq_skeleton]
  unfold onBufs k0_part27_skel
  refine recv_then 18 ?_
  refine recv_then 19 ?_
  refine recv_then 20 ?_
  exact Runs.pure trivial

/-- Part 28: waits for the incoming copies 22 to 24. -/
theorem part28 (c : Dev nD) (v2 : BitVec 32) (v856 : BitVec 32) :
    Runs c (St m ρ K c 32 32 32 true true 22 1)
      (onBufs (k0_part28 (F := F)) c v2 v856)
      (fun _ => True)
      (St m ρ K c 32 32 32 true true 25 1) := by
  rw [k0_part28_eq_skeleton]
  unfold onBufs k0_part28_skel
  refine recv_then 21 ?_
  refine recv_then 22 ?_
  refine recv_then 23 ?_
  exact Runs.pure trivial

/-- Part 29: waits for the incoming copies 25 to 27. -/
theorem part29 (c : Dev nD) (v2 : BitVec 32) (v886 : BitVec 32) (c1_i32_631 : BitVec 32) :
    Runs c (St m ρ K c 32 32 32 true true 25 1)
      (onBufs (k0_part29 (F := F)) c v2 v886 c1_i32_631)
      (fun _ => True)
      (St m ρ K c 32 32 32 true true 28 1) := by
  rw [k0_part29_eq_skeleton]
  unfold onBufs k0_part29_skel
  refine recv_then 24 ?_
  refine recv_then 25 ?_
  refine recv_then 26 ?_
  exact Runs.pure trivial

/-- Part 30: waits for the incoming copies 28 to 30. -/
theorem part30 (c : Dev nD) (v2 : BitVec 32) :
    Runs c (St m ρ K c 32 32 32 true true 28 1)
      (onBufs (k0_part30 (F := F)) c v2)
      (fun _ => True)
      (St m ρ K c 32 32 32 true true 31 1) := by
  rw [k0_part30_eq_skeleton]
  unfold onBufs k0_part30_skel
  refine recv_then 27 ?_
  refine recv_then 28 ?_
  refine recv_then 29 ?_
  exact Runs.pure trivial

/-- Part 31: waits for the incoming copies 31; waits for the outgoing copies 1 to 3. -/
theorem part31 (c : Dev nD) (v2 : BitVec 32) :
    Runs c (St m ρ K c 32 32 32 true true 31 1)
      (onBufs (k0_part31 (F := F)) c v2)
      (fun _ => True)
      (St m ρ K c 32 32 32 true true 32 4) := by
  rw [k0_part31_eq_skeleton]
  unfold onBufs k0_part31_skel
  refine recv_then 30 ?_
  refine sent_then 0 ?_
  refine sent_then 1 ?_
  refine sent_then 2 ?_
  exact Runs.pure trivial

/-- Part 32: waits for the outgoing copies 4 to 7. -/
theorem part32 (c : Dev nD) (v2 : BitVec 32) :
    Runs c (St m ρ K c 32 32 32 true true 32 4)
      (onBufs (k0_part32 (F := F)) c v2)
      (fun _ => True)
      (St m ρ K c 32 32 32 true true 32 8) := by
  rw [k0_part32_eq_skeleton]
  unfold onBufs k0_part32_skel
  refine sent_then 3 ?_
  refine sent_then 4 ?_
  refine sent_then 5 ?_
  refine sent_then 6 ?_
  exact Runs.pure trivial

/-- Part 33: waits for the outgoing copies 8 to 10. -/
theorem part33 (c : Dev nD) (v2 : BitVec 32) (v1011 : BitVec 32) :
    Runs c (St m ρ K c 32 32 32 true true 32 8)
      (onBufs (k0_part33 (F := F)) c v2 v1011)
      (fun _ => True)
      (St m ρ K c 32 32 32 true true 32 11) := by
  rw [k0_part33_eq_skeleton]
  unfold onBufs k0_part33_skel
  refine sent_then 7 ?_
  refine sent_then 8 ?_
  refine sent_then 9 ?_
  exact Runs.pure trivial

/-- Part 34: waits for the outgoing copies 11 to 14. -/
theorem part34 (c : Dev nD) (v2 : BitVec 32) :
    Runs c (St m ρ K c 32 32 32 true true 32 11)
      (onBufs (k0_part34 (F := F)) c v2)
      (fun _ => True)
      (St m ρ K c 32 32 32 true true 32 15) := by
  rw [k0_part34_eq_skeleton]
  unfold onBufs k0_part34_skel
  refine sent_then 10 ?_
  refine sent_then 11 ?_
  refine sent_then 12 ?_
  refine sent_then 13 ?_
  exact Runs.pure trivial

/-- Part 35: waits for the outgoing copies 15 to 18. -/
theorem part35 (c : Dev nD) (v2 : BitVec 32) :
    Runs c (St m ρ K c 32 32 32 true true 32 15)
      (onBufs (k0_part35 (F := F)) c v2)
      (fun _ => True)
      (St m ρ K c 32 32 32 true true 32 19) := by
  rw [k0_part35_eq_skeleton]
  unfold onBufs k0_part35_skel
  refine sent_then 14 ?_
  refine sent_then 15 ?_
  refine sent_then 16 ?_
  refine sent_then 17 ?_
  exact Runs.pure trivial

/-- Part 36: waits for the outgoing copies 19 to 22. -/
theorem part36 (c : Dev nD) (v2 : BitVec 32) :
    Runs c (St m ρ K c 32 32 32 true true 32 19)
      (onBufs (k0_part36 (F := F)) c v2)
      (fun _ => True)
      (St m ρ K c 32 32 32 true true 32 23) := by
  rw [k0_part36_eq_skeleton]
  unfold onBufs k0_part36_skel
  refine sent_then 18 ?_
  refine sent_then 19 ?_
  refine sent_then 20 ?_
  refine sent_then 21 ?_
  exact Runs.pure trivial

/-- Part 37: waits for the outgoing copies 23 to 25. -/
theorem part37 (c : Dev nD) (v2 : BitVec 32) (v1131 : BitVec 32) :
    Runs c (St m ρ K c 32 32 32 true true 32 23)
      (onBufs (k0_part37 (F := F)) c v2 v1131)
      (fun _ => True)
      (St m ρ K c 32 32 32 true true 32 26) := by
  rw [k0_part37_eq_skeleton]
  unfold onBufs k0_part37_skel
  refine sent_then 22 ?_
  refine sent_then 23 ?_
  refine sent_then 24 ?_
  exact Runs.pure trivial

/-- Part 38: waits for the outgoing copies 26 to 29. -/
theorem part38 (c : Dev nD) (v2 : BitVec 32) :
    Runs c (St m ρ K c 32 32 32 true true 32 26)
      (onBufs (k0_part38 (F := F)) c v2)
      (fun _ => True)
      (St m ρ K c 32 32 32 true true 32 30) := by
  rw [k0_part38_eq_skeleton]
  unfold onBufs k0_part38_skel
  refine sent_then 25 ?_
  refine sent_then 26 ?_
  refine sent_then 27 ?_
  refine sent_then 28 ?_
  exact Runs.pure trivial

/-! ## The whole -/

/-- The program takes every device from the first state to the last. -/
theorem program (c : Dev nD) :
    Runs c (St m ρ K c 1 0 0 false false 1 1) (onBufs (cc0_body (F := F))) (fun _ => True) (St m ρ K c 32 32 32 true true 32 32) := by
  rw [cc0_body_eq_skeleton]
  unfold onBufs cc0_body_skel
  refine Runs.bind (φ := fun _ => True) (P' := St m ρ K c 32 32 32 true true 32 32) ?_ fun _ _ => Runs.pure trivial
  rw [k0_part39_eq_skeleton]
  unfold k0_part39_skel
  refine Runs.bind (part1 m ρ K c) fun ⟨d, _, _, v4, _⟩ h => ?_
  obtain ⟨rfl, rfl⟩ : c = d ∧ v4 = barrierS := h
  refine Runs.bind (part2 m ρ K c _ _) fun _ _ => ?_
  refine Runs.bind (part3 m ρ K c _ _) fun _ _ => ?_
  refine Runs.bind (part4 m ρ K c _ _) fun _ _ => ?_
  refine Runs.bind (part5 m ρ K c _ _) fun _ _ => ?_
  refine Runs.bind (part6 m ρ K c _ _ _) fun ⟨v130, _, v137, v152⟩ h => ?_
  obtain ⟨rfl, rfl, rfl⟩ : v130 = rowsV m ρ c ∧ v137 = prodV m ρ c (blkOf c 0) ∧ v152 = colsOf (prodV m ρ c (blkOf c 0)) 2 := h
  refine Runs.bind (part7 m ρ K c _) fun y h => ?_
  obtain rfl := h
  refine Runs.bind (part8 m ρ K c _ _) fun ⟨_, _⟩ _ => ?_
  refine Runs.bind (part9 m ρ K c _ _ _ _) fun ⟨_, _⟩ _ => ?_
  refine Runs.bind (part10 m ρ K c _ _ _ _) fun ⟨_, v264, v286⟩ h => ?_
  obtain ⟨rfl, rfl⟩ : v264 = prodV m ρ c (blkOf c 1) ∧ v286 = colsOf (prodV m ρ c (blkOf c 1)) 3 := h
  refine Runs.bind (part11 m ρ K c _ _) fun ⟨_, _⟩ _ => ?_
  refine Runs.bind (part12 m ρ K c _ _ _ _) fun ⟨_, _⟩ _ => ?_
  refine Runs.bind (part13 m ρ K c _ _ _ _ _) fun ⟨_, v391, v392, _⟩ h => ?_
  obtain ⟨rfl, rfl⟩ : v391 = prodV m ρ c (blkOf c 2) ∧ v392 = colsOf (prodV m ρ c (blkOf c 2)) 0 := h
  refine Runs.bind (part14 m ρ K c _ _) fun ⟨v427, _⟩ h => ?_
  obtain rfl : v427 = colsOf (prodV m ρ c (blkOf c 2)) 5 := h
  refine Runs.bind (part15 m ρ K c _ _ _) fun ⟨_, _, _⟩ _ => ?_
  refine Runs.bind (part16 m ρ K c _ _ _ _ _) fun _ _ => ?_
  refine Runs.bind (part17 m ρ K c _ _ _ _) fun ⟨_, v518, v526⟩ h => ?_
  obtain ⟨rfl, rfl⟩ : v518 = prodV m ρ c (blkOf c 3) ∧ v526 = colsOf (prodV m ρ c (blkOf c 3)) 1 := h
  refine Runs.bind (part18 m ρ K c _) fun y h => ?_
  obtain rfl := h
  refine Runs.bind (part19 m ρ K c _ _) fun ⟨_, _⟩ _ => ?_
  refine Runs.bind (part20 m ρ K c _ _ _ _) fun ⟨_, _⟩ _ => ?_
  refine Runs.bind (part21 m ρ K c _ _ _) fun ⟨_, _⟩ _ => ?_
  refine Runs.bind (part22 m ρ K c _ _ _) fun _ _ => ?_
  refine Runs.bind (part23 m ρ K c _ _) fun _ _ => ?_
  refine Runs.bind (part24 m ρ K c _) fun _ _ => ?_
  refine Runs.bind (part25 m ρ K c _) fun _ _ => ?_
  refine Runs.bind (part26 m ρ K c _) fun _ _ => ?_
  refine Runs.bind (part27 m ρ K c _ _) fun _ _ => ?_
  refine Runs.bind (part28 m ρ K c _ _) fun ⟨_, _⟩ _ => ?_
  refine Runs.bind (part29 m ρ K c _ _ _) fun _ _ => ?_
  refine Runs.bind (part30 m ρ K c _) fun _ _ => ?_
  refine Runs.bind (part31 m ρ K c _) fun _ _ => ?_
  refine Runs.bind (part32 m ρ K c _) fun _ _ => ?_
  refine Runs.bind (part33 m ρ K c _ _) fun _ _ => ?_
  refine Runs.bind (part34 m ρ K c _) fun _ _ => ?_
  refine Runs.bind (part35 m ρ K c _) fun _ _ => ?_
  refine Runs.bind (part36 m ρ K c _) fun _ _ => ?_
  refine Runs.bind (part37 m ρ K c _ _) fun _ _ => ?_
  refine Runs.bind (part38 m ρ K c _) fun _ _ => ?_
  refine sent_then 29 ?_
  refine sent_then 30 ?_
  exact Runs.pure trivial

end Cert.AllToAll

end
-- ==== Proof.Ends.lean ====
/-
# The first and the last state

What a device is launched with makes the first state of its run, and the last state gives back the buffers, the result
filled, and every semaphore at zero.
-/
module

public import proofs.«01_k».proof.Proof.Parts

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ)

/-! ## Conjunctions over a device's semaphores -/

/-- Over the semaphores of the exchange: the barrier, the send semaphores, the receive semaphores. -/
theorem bigSep_kinds (Φ : CK → sProp 𝕄) : bigSep Finset.univ Φ
    = iprop(Φ none ∗ (bigSep Finset.univ fun j => Φ (some (false, j))) ∗ bigSep Finset.univ fun s => Φ (some (true, s))) := by
  have hu : (Finset.univ : Finset CK) = insert none (Finset.univ.map Function.Embedding.some) := by
    ext k
    rcases k with _ | k
    · exact ⟨fun _ => Finset.mem_insert_self _ _, fun _ => Finset.mem_univ _⟩
    · exact ⟨fun _ => Finset.mem_insert_of_mem (Finset.mem_map_of_mem _ (Finset.mem_univ k)), fun _ => Finset.mem_univ _⟩
  have hn : (none : CK) ∉ Finset.univ.map (Function.Embedding.some (α := Bool × Dev nD)) := fun h => by
    obtain ⟨k, _, hk⟩ := Finset.mem_map.mp h
    cases hk
  rw [hu, bigSep_insert hn, bigSep_map, bigSep_univ_prod, bigSep_univ_eq_bigSepL [false, true] (by decide) (by decide)]
  rfl

/-- A device apart from the others. -/
theorem bigSep_self (c : Dev nD) (Φ : Dev nD → sProp 𝕄) : bigSep Finset.univ Φ = iprop(Φ c ∗ bigSep (Finset.univ.erase c) Φ) :=
  bigSep_univ_at Φ c

/-- What persists serves every summand. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## The first state -/

/-- A device's positions, -/
def places (c : Dev nD) : sProp 𝕄 := bigSep Finset.univ fun k : CK => atPos ER (kcell (c, k)) 0 ∅ 0
/-- the tokens of the duties it discharges, -/
def payments (c : Dev nD) : sProp 𝕄 :=
  bigSep Finset.univ fun d => iprop(dutyTok ER (barCell d) 0 c ∗ dutyTok ER (sendCell c d) 0 c ∗ dutyTok ER (recvCell d c) 0 c)
/-- and the credits of its waits. -/
def credits (c : Dev nD) : sProp 𝕄 :=
  iprop(cred (tallyAt (barCell c) () 31) ∗ bigSep (Finset.univ.erase c) fun s => cred (tallyAt (recvCell c s) () N))

/-- A whole buffer at contents not said. -/
def scratchAny (c : Dev nD) : sProp 𝕄 := iprop(∃ f, ((c : Thread nD τ).loc cc0_scratch0) ↦{fullShare} f)
def resultAny (c : Dev nD) : sProp 𝕄 := iprop(∃ f, ((c : Thread nD τ).loc cc0_stg2_0) ↦{fullShare} f)

theorem first_state (c : Dev nD) :
    iprop(known m ρ K ∗ places c ∗ payments c ∗ credits c ∗ inputs m ρ c ∗ (∃ W, owes (c : Thread nD τ) (O₀ c) W) ∗ scratchAny c ∗ resultAny c)
      ⊢ St m ρ K c 1 0 0 false false 1 1 := by
  unfold places payments credits scratchAny resultAny
  rw [bigSep_kinds, bigSep_self c (fun j => atPos ER (kcell (c, some (false, j))) 0 ∅ 0),
    bigSep_self c (fun s => atPos ER (kcell (c, some (true, s))) 0 ∅ 0), bigSep_self c fun d => iprop(dutyTok ER (barCell d) 0 c ∗ _ ∗ _)]
  simp only [bigSep_sep']
  iintro ⟨#Hk, ⟨HaB, ⟨HaSc, HaS⟩, HaRc, HaR⟩, ⟨-, HtB, HtS, HtR⟩, ⟨HcB, HcR⟩, Hin, HO, ⟨%f, Hscr⟩, %g, Hout⟩
  ihave Hscr' := (slots_split c f) $$ Hscr
  ihave Hout' := ((rows_split c g).trans (Entails.of_eq (bigSep_self c fun s => rowAny c s))) $$ Hout
  icases Hout' with ⟨Hown, Hout'⟩
  unfold St debt toSignal barrier toFill filled toSend ownRow toRecv received flying toWait waited unused
  simp only [sigT_first, sigD_first, sendT_first, fillT_first, readyT_first, flyT_first, bigSep_sep', BI.bigSep_empty, if_neg Bool.false_ne_true]
  isplitr; · iexact Hk
  isplitl [Hin]; · iexact Hin
  isplitl [HO]; · iexact HO
  isplitl [HtB Hout']; · isplitl [HtB] <;> iassumption
  isplitl [HaB HcB]; · isplitl [HaB] <;> iassumption
  isplitl [Hscr']; · iexact Hscr'
  isplitr; · iempintro
  isplitl [HtS HtR]; · isplitl [HtS] <;> iassumption
  isplitl [Hown]; · iexact Hown
  isplitl [HaR HcR]; · isplitl [HaR] <;> iassumption
  isplitr; · isplitr <;> iempintro
  isplitr; · iempintro
  isplitl [HaS]; · iexact HaS
  isplitr; · isplitr <;> iempintro
  isplitl [HaSc] <;> iassumption

/-! ## The last state -/

/-- A cell whose rounds are over closes, and its counter is at zero. -/
theorem close_cell (ck : Dev nD × CK) (R : ℕ) (h : ∀ r, R ≤ r → (rd (F := F) m ρ).duties (kcell ck) r = ∅) :
    iprop(known m ρ K ∗ atPos ER (kcell ck) R ∅ 0) ⊢ |={Set.univ}=> semVal (kcell ck) 0 :=
  (sep_mono_left (known_inv m ρ K ck)).trans (Rounds.cell_close ER (rd m ρ) (Set.mem_univ (K ck)) (fun h => h) (R := R) h)

/-- After its one round, -/
theorem close_used (ck : Dev nD × CK) : iprop(known m ρ K ∗ atPos ER (kcell ck) 1 ∅ 0) ⊢ |={Set.univ}=> semVal (kcell ck) 0 :=
  close_cell m ρ K ck 1 (duties_later m ρ (kcell ck))
/-- and before it where it has no duty: from a device to itself. -/
theorem close_unused (c : Dev nD) (b : Bool) :
    iprop(known m ρ K ∗ atPos ER (kcell (c, some (b, c))) 0 ∅ 0) ⊢ |={Set.univ}=> semVal (kcell (c, some (b, c))) 0 :=
  close_cell m ρ K (c, some (b, c)) 0 fun r _ => by
    rcases r with _ | r
    · rw [duties_kcell]
      cases b <;> exact if_pos rfl
    · exact duties_later m ρ _ _ (Nat.le_add_left 1 r)

/-- All send semaphores, or all receive semaphores, of a device: closed together. -/
theorem close_all (c : Dev nD) (b : Bool) :
    iprop(known m ρ K ∗ (bigSep (Finset.univ.erase c) fun j => atPos ER (kcell (c, some (b, j))) 1 ∅ 0) ∗ atPos ER (kcell (c, some (b, c))) 0 ∅ 0)
      ⊢ |={Set.univ}=> bigSep Finset.univ fun j => semVal (kcell (c, some (b, j))) 0 := by
  rw [bigSep_self c]
  iintro ⟨#Hk, Ha, Hc⟩
  imod (close_unused m ρ K c b) $$ [Hc] with Hc
  · isplitr; · iexact Hk
    iexact Hc
  imod (((bigSep_along (R := known m ρ K) fun j _ => close_used m ρ K (c, some (b, j))).trans (bigSep_fupd _ _) :
      iprop(known m ρ K ∗ bigSep (Finset.univ.erase c) fun j => atPos ER (kcell (c, some (b, j))) 1 ∅ 0)
        ⊢ |={Set.univ}=> bigSep (Finset.univ.erase c) fun j => semVal (kcell (c, some (b, j))) 0)) $$ [Ha] with Ha
  · isplitr; · iexact Hk
    iexact Ha
  imodintro
  isplitl [Hc] <;> iassumption

theorem last_state (c : Dev nD) :
    St m ρ K c 32 32 32 true true 32 32
      ⊢ |={Set.univ}=> iprop(inputs m ρ c ∗ (∃ W, owes (c : Thread nD τ) 0 W) ∗ scratchAny c
          ∗ (((c : Thread nD τ).loc cc0_stg2_0) ↦{fullShare} outV m ρ c) ∗ bigSep Finset.univ fun k : CK => semVal (kcell (c, k)) 0) := by
  unfold St debt toSignal barrier toFill filled toSend ownRow toRecv received flying toWait waited unused scratchAny
  simp only [sigT_last, sigD_last, sendT_last, fillT_last, readyT_last, flyT_last, bigSep_sep', BI.bigSep_empty, bigSep_singleton, if_pos, owed_empty]
  rw [bigSep_kinds, rows_eq, bigSep_self c fun s => row c s (outV m ρ c)]
  iintro ⟨#Hk, Hin, HO, -, ⟨HaB, -⟩, -, Hslot, -, Hown, -, ⟨HaR, Hrow⟩, -, -, ⟨HaS, Hslots⟩, HuS, HuR⟩
  imod (close_used m ρ K (c, none)) $$ [HaB] with HaB
  · isplitr; · iexact Hk
    iexact HaB
  imod (close_all m ρ K c false) $$ [HaS HuS] with HaS
  · isplitr; · iexact Hk
    isplitl [HaS] <;> iassumption
  imod (close_all m ρ K c true) $$ [HaR HuR] with HaR
  · isplitr; · iexact Hk
    isplitl [HaR] <;> iassumption
  imodintro
  isplitl [Hin]; · iexact Hin
  isplitl [HO]; · iexact HO
  isplitl [Hslot Hslots]
  · iexists (commV m ρ c)
    rw [slots_eq, bigSep_self c fun j => slot c j (commV m ρ c)]
    isplitl [Hslot] <;> iassumption
  isplitl [Hown Hrow]
  · isplitl [Hown] <;> iassumption
  isplitl [HaB]; · iexact HaB
  isplitl [HaS] <;> iassumption

end Cert.AllToAll

end
-- ==== Proof.Body.lean ====
/-
# The body

What a device holds between the launch, the body and the exit, and that the body, which the program runs once on the
staged buffers, takes the one to the other.
-/
module

public import proofs.«01_k».proof.Proof.Ends

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The data of the pipeline -/

/-- What a device starts its run with, beside the buffers. -/
def start (c : Dev nD) : sProp 𝕄 := iprop(∃ K, known m ρ K ∗ places c ∗ payments c ∗ credits c)
/-- Between launch and body: that and the communication buffer. -/
def before₀ (c : Dev nD) : sProp 𝕄 := iprop(start m ρ c ∗ scratchAny c)
/-- Between body and exit: the communication buffer and every semaphore at zero. -/
def after₀ (c : Dev nD) : sProp 𝕄 := iprop(scratchAny c ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => wst m ρ c
    | ⟨2, _⟩ => outV m ρ c
  Φ t := match t with
    | ⟨0, _⟩ => before₀ m ρ c
    | ⟨_ + 1, _⟩ => after₀ c
  q _ := fullShare
  owed t := match t with
    | ⟨0, _⟩ => O₀ c
    | ⟨_ + 1, _⟩ => 0

/-! ## The body -/

/-- A whole buffer of a device at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fetch_x : (cfg0.win (0 : Fin 3)).fetch t0_0 = true := rfl
theorem fetch_w : (cfg0.win (1 : Fin 3)).fetch t0_0 = true := rfl

set_option maxRecDepth 16384 in
def bodyPre (c : Dev nD) : sProp 𝕄 :=
  iprop(before₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 16384 in
def bodyPost (c : Dev nD) : sProp 𝕄 :=
  iprop(after₀ c ∗ (dats m ρ 0 c).owesAt () t0_0.succ ∗ stg c cc0_stg0_0 (xst m ρ c) ∗ stg c cc0_stg1_0 (wst m ρ c)
    ∗ stg c cc0_stg2_0 (outV m ρ c))

set_option maxRecDepth 16384 in
/-- The staged buffers and the rest make the first state; -/
theorem body_first (c : Dev nD) : bodyPre m ρ c ⊢ iprop(∃ K, St m ρ K c 1 0 0 false false 1 1) := by
  unfold bodyPre before₀ start
  iintro ⟨⟨⟨%K, Hk, Ha, Ht, Hc⟩, Hscr⟩, Ho, ⟨%d0, %g0, %hg0, Hx⟩, ⟨%d1, %g1, %hg1, Hw⟩, ⟨%d2, %g2, %hg2, Hout⟩⟩
  have hx : g0 = xst m ρ c := by rw [hg0]; unfold Dat.before; rw [if_pos fetch_x]; rfl
  have hw : g1 = wst m ρ c := by rw [hg1]; unfold Dat.before; rw [if_pos fetch_w]; rfl
  subst hx
  subst hw
  unfold Dat.owesAt Pipeline.owesWithin
  icases Ho with ⟨%W, %hW, HO⟩
  iexists K
  iapply (first_state m ρ K c)
  isplitl [Hk]; · iexact Hk
  isplitl [Ha]; · iexact Ha
  isplitl [Ht]; · iexact Ht
  isplitl [Hc]; · iexact Hc
  isplitl [Hx Hw]
  · unfold inputs
    isplitl [Hx] <;> iassumption
  isplitl [HO]
  · iexists W; iexact HO
  isplitl [Hscr]; · iexact Hscr
  unfold resultAny
  iexists g2; iexact Hout

set_option maxRecDepth 16384 in
/-- and the last state gives the staged buffers back, the result's filled. -/
theorem body_last (K : Dev nD × CK → ℕ) (c : Dev nD) : St m ρ K c 32 32 32 true true 32 32 ⊢ |={Set.univ}=> bodyPost m ρ c := by
  iintro H
  imod (last_state m ρ K c) $$ H with ⟨Hin, ⟨%W, HO⟩, Hscr, Hout, Hsem⟩
  imodintro
  unfold bodyPost after₀ inputs Dat.owesAt Pipeline.owesWithin
  icases Hin with ⟨Hx, Hw⟩
  isplitl [Hscr Hsem]
  · isplitl [Hscr] <;> iassumption
  isplitl [HO]
  · iexists W
    isplitr; · ipureintro; exact fun _ _ => Or.inl trivial
    iexact HO
  isplitl [Hx]
  · iexists _
    isplitr; · (ipureintro; rfl)
    iexact Hx
  isplitl [Hw]
  · iexists _
    isplitr; · (ipureintro; rfl)
    iexact Hw
  iexists _
  isplitr; · (ipureintro; rfl)
  iexact Hout

/-- From the first state the body runs to the end, with the staged buffers back. -/
theorem body_run (K : Dev nD × CK → ℕ) (c : Dev nD) : St m ρ K c 1 0 0 false false 1 1
    ⊢ wp frame (wpE (defs₀ (F := F)) 𝒱₀ (c : Thread nD τ) none) Set.univ (onBufs (cc0_body (F := F))) (fun _ => bodyPost m ρ c) := by
  have h := program m ρ K c
  unfold Runs at h
  refine (h.trans (wp_mono _ _ _ fun _ => ?_)).trans (wp_fupd _ _ _ _ _)
  iintro ⟨-, H⟩
  iapply (body_last m ρ K c)
  iexact H

theorem body_sound (c : Dev nD) : bodyPre m ρ c
    ⊢ wp frame (wpE (defs₀ (F := F)) 𝒱₀ (c : Thread nD τ) none) Set.univ (onBufs (cc0_body (F := F))) (fun _ => bodyPost m ρ c) := by
  refine (body_first m ρ c).trans ?_
  iintro ⟨%K, H⟩
  iapply (body_run m ρ K c)
  iexact H

attribute [local irreducible] cc0_body xst wst outV before₀ after₀ in
set_option maxRecDepth 16384 in
/-- The body, at its one point. -/
theorem body_obligation (c : Dev nD) : BodyObligation (dats (F := F) m ρ 0 c) (defs₀ (F := F)) 𝒱₀ () Set.univ := fun t => by
  rw [fin_N0 t, bigSep_W0, bigSep_W0]
  simp only [owns_stg]
  exact body_sound m ρ c

end Cert.AllToAll

end
-- ==== Proof.Launch.lean ====
/-
# The launch

The exchange's ghost state is made at launch, its cells are allocated over all devices' semaphores at once, and each
device is dealt its positions, the tokens of the duties it discharges and the credits of its waits. With the run of the
body that gives the run of the whole program on 32 devices.
-/
module

public import proofs.«01_k».proof.Proof.Body
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

/-- Every device's cells of the exchange. -/
def allCells : Finset (GSem nD τ sig) := Finset.univ.map ⟨kcell, kcell_injective⟩

/-- The tokens device `c` discharges duties with, for each device `d`: at `d`'s barrier, at its own send semaphore towards
    `d`, at its receive semaphore on `d`. -/
def tokenCell (c d : Dev nD) : Fin 3 → Dev nD × CK
  | 0 => (d, none)
  | 1 => (c, some (false, d))
  | 2 => (d, some (true, c))
def token (x : Dev nD × Dev nD × Fin 3) : GSem nD τ sig × ℕ × Dev nD := (kcell (tokenCell x.1 x.2.1 x.2.2), 0, x.1)

theorem token_injective : Function.Injective token := by
  rintro ⟨c, d, i⟩ ⟨c', d', i'⟩ h
  obtain rfl : c = c' := congrArg (fun y : GSem nD τ sig × ℕ × Dev nD => y.2.2) h
  have hk : tokenCell c d i = tokenCell c d' i' := kcell_injective (congrArg (fun y : GSem nD τ sig × ℕ × Dev nD => y.1) h)
  have : d = d' ∧ i = i' := by
    match i, i', hk with
    | 0, 0, hk => exact ⟨congrArg Prod.fst hk, rfl⟩
    | 1, 1, hk => exact ⟨congrArg Prod.snd (Option.some.inj (congrArg Prod.snd hk)), rfl⟩
    | 2, 2, hk => exact ⟨congrArg Prod.fst hk, rfl⟩
    | 0, 1, hk => cases congrArg Prod.snd hk
    | 0, 2, hk => cases congrArg Prod.snd hk
    | 1, 0, hk => cases congrArg Prod.snd hk
    | 1, 2, hk => cases congrArg Prod.fst (Option.some.inj (congrArg Prod.snd hk))
    | 2, 0, hk => cases congrArg Prod.snd hk
    | 2, 1, hk => cases congrArg Prod.fst (Option.some.inj (congrArg Prod.snd hk))
  rw [this.1, this.2]

def allTokens : Finset (GSem nD τ sig × ℕ × Dev nD) := Finset.univ.map ⟨token, token_injective⟩

def u₀ : UU := (initOf (Pipeline.cells cfgs cellOf_inj) (Pipeline.launchToks cfgs cellOf_inj), initOf allCells allTokens)

/-- What a device is dealt at first: its cells' states, its positions, and its tokens; -/
def dealt (c : Dev nD) : sProp 𝕄 :=
  iprop((bigSep Finset.univ fun k : CK => roundState ER (rd m ρ) (kcell (c, k)) 0)
    ∗ places c ∗ (bigSep Finset.univ fun k : CK => reached ER (kcell (c, k)) 0) ∗ payments c)

/-- what is known of the cells once they are allocated; -/
def cellsKnown (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

instance cellsKnown_persistent (K : Dev nD × CK → ℕ) : BI.Persistent (cellsKnown m ρ K) := by unfold cellsKnown; infer_instance

/-- and what a device has then. -/
def ready (c : Dev nD) : sProp 𝕄 := iprop(∃ K, cellsKnown m ρ K ∗ places c ∗ payments c)

theorem fund_exchange : BI.own (ER (initOf allCells allTokens)) ⊢ (|==> bigSep Finset.univ (dealt m ρ) : sProp 𝕄) := by
  have hc (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have ht : bigSep allTokens (fun x => (dutyTok ER x.1 x.2.1 x.2.2 : sProp 𝕄)) = bigSep Finset.univ fun c : Dev nD => payments c := by
    unfold allTokens
    rw [bigSep_map, bigSep_univ_prod]
    refine bigSep_congr fun c _ => ?_
    unfold payments
    rw [bigSep_univ_prod]
    refine bigSep_congr fun d _ => ?_
    rw [bigSep_univ_eq_bigSepL [0, 1, 2] (by decide) (by decide)]
    rfl
  iintro H
  imod (Rounds.fund ER (rd m ρ) allCells allTokens) $$ H with ⟨Hs, Hr, Ha, Ht⟩
  imodintro
  ihave Hs' := (Entails.of_eq (hc fun g => roundState ER (rd m ρ) g 0)) $$ Hs
  ihave Ha' := (Entails.of_eq (hc fun g => atPos ER g 0 ∅ 0)) $$ Ha
  ihave Hr' := (Entails.of_eq (hc fun g => reached ER g 0)) $$ Hr
  ihave Ht' := (Entails.of_eq ht) $$ Ht
  unfold dealt places
  simp only [bigSep_sep']
  isplitl [Hs']; · iexact Hs'
  isplitl [Ha']; · iexact Ha'
  isplitl [Hr'] <;> iassumption

/-! ## The cells -/

set_option maxRecDepth 16384 in
theorem ownSemFacts : Pipeline.OwnSemFacts cfg0.spec osem := by decide

/-- The one semaphore that outlives the kernel is the barrier. -/
theorem unscoped_bar (c : Dev nD) : (unscopedSems0 c : sProp 𝕄) = semVal (barCell c) 0 := by
  unfold unscopedSems0; rw [bigSep_eq_bigSepL_of_eq [SemLoc.reg barS] (by decide) (by decide)]; rfl

/-- A device's semaphores of the exchange are the barrier and the kernel's own. -/
theorem sems_eq (c : Dev nD) : (bigSep Finset.univ fun k : CK => semVal (kcell (c, k)) 0 : sProp 𝕄)
    = iprop(unscopedSems0 c ∗ Pipeline.ownSems0 (Ix := Unit) (Name := ℕ) (U := UU) (Lvl := ℕ) (Val := Elt F) (τ := τ) osem c) := by
  rw [unscoped_bar]
  unfold Pipeline.ownSems0
  rw [bigSep_kinds, bigSep_univ_prod, bigSep_univ_eq_bigSepL [false, true] (by decide) (by decide)]
  rfl

theorem alloc_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (rd m ρ) κ (kcell (c, k))))
          ∗ places c ∗ (bigSep Finset.univ fun k : CK => reached ER (kcell (c, k)) 0) ∗ payments c) := by
  unfold dealt
  have hinv : iprop((bigSep Finset.univ fun k : CK => semVal (kcell (c, k)) 0) ∗ bigSep Finset.univ fun k : CK => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  rw [sems_eq] at hinv
  iintro ⟨Ho, Hu, Hs, Ha, Hr, Ht⟩
  imod hinv $$ [Ho Hu Hs] with Hi
  · isplitl [Ho Hu]
    · isplitl [Hu] <;> iassumption
    iexact Hs
  imodintro
  isplitl [Hi]; · iexact Hi
  isplitl [Ha]; · iexact Ha
  isplitl [Hr] <;> iassumption

theorem ready_intro (K : Dev nD × CK → ℕ) (c : Dev nD) : iprop(cellsKnown m ρ K ∗ places c ∗ payments c) ⊢ ready m ρ c := by
  unfold ready
  iintro H
  iexists K
  iexact H

theorem share_cells :
    (bigSep Finset.univ fun c : Dev nD => iprop((bigSep Finset.univ fun k => iprop(∃ κ : ℕ, cellInv ER (rd m ρ) κ (kcell (c, k))))
          ∗ places c ∗ (bigSep Finset.univ fun k : CK => reached ER (kcell (c, k)) 0) ∗ payments c) : sProp 𝕄)
      ⊢ bigSep Finset.univ (ready m ρ) := by
  rw [bigSep_sep', bigSep_sep', bigSep_sep', ← bigSep_univ_prod (fun ck : Dev nD × CK => iprop(∃ κ : ℕ, cellInv ER (rd m ρ) κ (kcell ck))),
    ← bigSep_univ_prod (fun ck : Dev nD × CK => (reached ER (kcell ck) 0 : sProp 𝕄))]
  iintro ⟨Hi, Ha, #Hr, Ht⟩
  ihave HK := (BI.bigSep_exists_pi Finset.univ (fun (ck : Dev nD × CK) (κ : ℕ) => (cellInv ER (rd m ρ) κ (kcell ck) : sProp 𝕄))) $$ Hi
  icases HK with ⟨%K, #HI⟩
  iapply (bigSep_along (R := cellsKnown m ρ K) fun c _ => ready_intro m ρ K c)
  isplitr
  · unfold cellsKnown
    isplitl; · iexact HI
    iexact Hr
  · iapply (Entails.of_eq (bigSep_sep' Finset.univ (fun c : Dev nD => (places c : sProp 𝕄)) payments).symm)
    isplitl [Ha] <;> iassumption

/-- All devices' semaphores at once. -/
theorem glob : (bigSep Finset.univ fun c => iprop(Pipeline.ownSems0 (Ix := Unit) (Name := ℕ) (U := UU) (Lvl := ℕ) (Val := Elt F) (τ := τ) osem c
      ∗ unscopedSems0 c ∗ dealt m ρ c) : sProp 𝕄) ⊢ |={Set.univ}=> bigSep Finset.univ (ready m ρ) :=
  ((bigSep_mono fun c _ => alloc_cells m ρ c).trans (bigSep_fupd _ _)).trans (BI.fupd_mono (share_cells m ρ))

/-! ## The credits -/

theorem kcell_eq_iff {ck ck' : Dev nD × CK} : kcell ck = kcell ck' ↔ ck = ck' := ⟨fun h => kcell_injective h, fun h => h ▸ rfl⟩

/-- What device `d` owes device `c`'s barrier: a unit, unless it is its own; -/
theorem owed_bar (d c : Dev nD) : O₀ d (barCell c) () = if d = c then 0 else 1 := by
  unfold O₀
  rw [owed_apply, Finset.sum_eq_zero (s := Finset.univ.erase d) (f := fun e => (tallyAt (recvCell e d) () N : CellTallies nD τ sig Unit) (barCell c) ()) fun e _ => by
    rw [tallyAt_apply]; exact if_neg fun h => by cases congrArg Prod.snd (kcell_injective h.1)]
  rw [add_zero, Finset.sum_congr rfl fun e _ => show _ = if e = c then 1 else 0 by
    rw [tallyAt_apply]
    exact if_congr ⟨fun h => (congrArg Prod.fst (kcell_injective h.1)).symm, fun h => ⟨by rw [h], rfl⟩⟩ rfl rfl]
  rw [Finset.sum_ite_eq']
  by_cases h : d = c
  · rw [if_pos h, h]; exact if_neg (Finset.notMem_erase c _)
  · rw [if_neg h]; exact if_pos (Finset.mem_erase.mpr ⟨fun h' => h h'.symm, Finset.mem_univ _⟩)

/-- and its receive semaphore for what device `s` sends: a copy's credit, from `s`. -/
theorem owed_recv (d c s : Dev nD) (hs : s ≠ c) : O₀ d (recvCell c s) () = if d = s then N else 0 := by
  unfold O₀
  rw [owed_apply, Finset.sum_eq_zero (s := Finset.univ.erase d) (f := fun e => (tallyAt (barCell e) () 1 : CellTallies nD τ sig Unit) (recvCell c s) ()) fun e _ => by
    rw [tallyAt_apply]; exact if_neg fun h => by cases congrArg Prod.snd (kcell_injective h.1)]
  rw [zero_add]
  by_cases h : d = s
  · subst h
    rw [if_pos rfl, Finset.sum_congr rfl fun e _ => show _ = if e = c then N else 0 by
      rw [tallyAt_apply]
      exact if_congr ⟨fun h => (congrArg Prod.fst (kcell_injective h.1)).symm, fun h => ⟨by rw [h], rfl⟩⟩ rfl rfl]
    rw [Finset.sum_ite_eq']
    exact if_pos (Finset.mem_erase.mpr ⟨fun h' => hs h'.symm, Finset.mem_univ _⟩)
  · rw [if_neg h]
    exact Finset.sum_eq_zero fun e _ => by
      rw [tallyAt_apply]
      exact if_neg fun h' => h (congrArg Prod.snd (Option.some.inj (congrArg Prod.snd (kcell_injective h'.1)))).symm

theorem launch_bar (c : Dev nD) :
    tallyOn (barCell c) (launchCredit (Pipeline.owing O₀) 0 (barCell c)) = (tallyAt (barCell c) () 31 : CellTallies nD τ sig Unit) := by
  unfold tallyAt
  refine congrArg _ (Finsupp.ext fun u => ?_)
  cases u
  rw [Pipeline.launchCredit_owing, Finsupp.single_eq_same, Finset.sum_congr rfl fun d _ => owed_bar d c, ← Finset.add_sum_erase _ _ (Finset.mem_univ c),
    if_pos rfl, Finset.sum_congr rfl fun d hd => if_neg (Finset.ne_of_mem_erase hd), Finset.sum_const, Finset.card_erase_of_mem (Finset.mem_univ c),
    Finset.card_univ, Fintype.card_fin]
  rfl

theorem launch_recv (c s : Dev nD) (hs : s ≠ c) :
    tallyOn (recvCell c s) (launchCredit (Pipeline.owing O₀) 0 (recvCell c s)) = (tallyAt (recvCell c s) () N : CellTallies nD τ sig Unit) := by
  unfold tallyAt
  refine congrArg _ (Finsupp.ext fun u => ?_)
  cases u
  rw [Pipeline.launchCredit_owing, Finsupp.single_eq_same, Finset.sum_congr rfl fun d _ => owed_recv d c s hs, Finset.sum_ite_eq' Finset.univ s fun _ => N,
    if_pos (Finset.mem_univ _)]

theorem credits_intro (c : Dev nD) : (Pipeline.launchCred O₀ c : sProp 𝕄) ⊢ credits c := by
  unfold Pipeline.launchCred
  refine (bigSep_subset (Finset.subset_univ (Finset.univ.map ⟨csem, csem_injective⟩))).trans ?_
  rw [bigSep_map]
  refine (Entails.of_eq (bigSep_kinds _)).trans ?_
  unfold credits
  iintro ⟨Hb, -, Hr⟩
  isplitl [Hb]
  · rw [← launch_bar]; iexact Hb
  · rw [← bigSep_congr fun s hs => congrArg cred (launch_recv c s (Finset.ne_of_mem_erase hs))]
    iapply (show (bigSep Finset.univ fun s => cred (tallyOn (recvCell c s) (launchCredit (Pipeline.owing O₀) 0 (recvCell c s))) : sProp 𝕄) ⊢ _ from
      bigSep_subset (Finset.subset_univ (Finset.univ.erase c)))
    iexact Hr

/-! ## The launch theorem's conditions -/

theorem share_eq (c : Dev nD) (w : Fin cfg0.W) : (dats m ρ 0 c).share w = fullShare := by unfold Dat.share; split <;> rfl

set_option maxRecDepth 16384 in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  unfold ready cellsKnown
  iintro ⟨-, #Hl, Hc, -, %K, ⟨#Hi, #Hr⟩, Ha, Ht⟩
  ihave Hc := (credits_intro (F := F) c) $$ Hc
  imodintro
  unfold start known
  isplitl
  · iexists K
    isplitr
    · isplitr; · iexact Hi
      isplitr; · iexact Hr
      iexact Hl
    isplitl [Ha]; · iexact Ha
    isplitl [Ht] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratchAny
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after₀ c from rfl, scopedRest0_eq]
  unfold after₀ scratchAny
  rw [sems_eq]
  iintro ⟨Hr, Hu, Ho⟩
  isplitl [Hu]; · iexact Hu
  isplitl [Ho] <;> iassumption

set_option maxRecDepth 16384 in
theorem waits (c : Dev nD) : (levAts L lv : sProp 𝕄) ⊢ Pipeline.cellsWaits cfgs (dats m ρ) () 0 c :=
  Pipeline.cellsWaits_intro cfgs (dats m ρ) () 0 c fun w s t => by
    have hw : ∀ O A B, O = owed c A B → (levAts L lv : sProp 𝕄) ⊢ MayWait (c : Thread nD τ) (.dma (((cfgs 0).win w).sem s)) () O := fun O A B h => by
      rw [h]
      exact mayWait_below c _ A B 0 (by fin_cases w <;> fin_cases s <;> decide) (Or.inr (by decide)) (Or.inr (by decide))
    rcases t with ⟨_ | _, ht⟩
    · exact hw _ _ _ rfl
    · exact hw _ ∅ ∅ (owed_empty c).symm

/-! ## The run -/

/-- What window `w`'s array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body xst wst outV before₀ after₀ in
set_option maxRecDepth 16384 in
/-- On 32 devices, for any float values, from any memory with zero counters: every weakly fair execution ends, and then each
    device's arrays hold what is computed for them and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllToAll

end
-- ==== Proof.Value.lean ====
/-
# The result

Read over the extended reals, what a device's result holds is its block of 64 columns of the whole product: row `r`,
column `q` of device `d`'s result is the sum over `k` of `x (r, k) * w (k, 64 d + q)`.
-/
module

public import proofs.«01_k».proof.Proof.Launch
public import proofs.«01_k».proof.Proof.Gen.ReferenceIdeal
public import Idealize.ShloMosaic.Lib.MatmulPlain
public import Idealize.ShloMosaic.Lib.KernelVsHost
public import Idealize.ShloMosaic.Lib.Pipeline.Value
public import Idealize.ShloMosaic.Lib.Layout

@[expose] public section

noncomputable section

namespace Cert.AllToAll

open Cert.KernelIdeal Cert.KernelIdeal.Gen

open Idealize.ShloMosaic
open Idealize.ShloMosaic.TcCoe
open Idealize.ShloMosaic.ValueIdx
open Idealize.SL.Sem
open Idealize.ShloMosaic.Pipeline (Dat)

variable {F : FTy → Type} [FloatOps F]

variable (m : (ℓ : Loc nD τ sig) → Buf (Elt F) ℓ) (ρ : Dev nD → PrngReg)

/-! ## The arrays -/

/-- A window's one block is the whole array. -/
theorem emb_x (i : S64x2048.Idx) : (win0_0.blk (0 : Fin 1)).view.emb i = i := by
  funext a; apply Fin.ext
  match a with
  | ⟨0, _⟩ => show 0 * 64 + 1 * (i 0).val = (i 0).val; omega
  | ⟨1, _⟩ => show 0 * 2048 + 1 * (i 1).val = (i 1).val; omega
theorem emb_w (i : S2048x2048.Idx) : (win0_1.blk (0 : Fin 1)).view.emb i = i := by
  funext a; apply Fin.ext
  match a with
  | ⟨0, _⟩ => show 0 * 2048 + 1 * (i 0).val = (i 0).val; omega
  | ⟨1, _⟩ => show 0 * 2048 + 1 * (i 1).val = (i 1).val; omega
theorem emb_out (t : Fin 1) (i : S2048x64.Idx) : (win0_2.blk t).view.emb i = i := by
  funext a; apply Fin.ext
  match a with
  | ⟨0, _⟩ => show 0 * 2048 + 1 * (i 0).val = (i 0).val; omega
  | ⟨1, _⟩ => show 0 * 64 + 1 * (i 1).val = (i 1).val; omega

theorem xst_eq (c : Dev nD) : xst m ρ c = m ((c : Thread nD τ).loc main_arg0) :=
  funext fun i => (View.read_apply _ _).trans (congrArg (m ((c : Thread nD τ).loc main_arg0)) (emb_x i))
theorem wst_eq (c : Dev nD) : wst m ρ c = m ((c : Thread nD τ).loc main_arg1) :=
  funext fun i => (View.read_apply _ _).trans (congrArg (m ((c : Thread nD τ).loc main_arg1)) (emb_w i))

/-- After the run the arguments hold what they held, -/
theorem final_x (c : Dev nD) : finalA m ρ c (0 : Fin 3) = m ((c : Thread nD τ).loc main_arg0) := (dats m ρ 0 c).arrAt_in (0 : Fin 3) rfl _
theorem final_w (c : Dev nD) : finalA m ρ c (1 : Fin 3) = m ((c : Thread nD τ).loc main_arg1) := (dats m ρ 0 c).arrAt_in (1 : Fin 3) rfl _
/-- and the result what the devices have computed for it. -/
theorem final_out (c : Dev nD) : finalA m ρ c (2 : Fin 3) = outV m ρ c := by
  refine (dats m ρ 0 c).arrAt_eq_of_cover (2 : Fin 3) (outV m ρ c) (fun t _ => ?_) fun i => ⟨t0_0, rfl, ?_⟩
  · rw [fin_N0 t]
    funext i
    exact (congrArg (outV m ρ c) (emb_out t0_0 i).symm : outV m ρ c i = outV m ρ c ((win0_2.blk t0_0).view.emb i))
  · exact Finset.mem_map.mpr ⟨i, Finset.mem_univ _, emb_out t0_0 i⟩

/-! ## The products -/

section AtIdeal

variable (m : (ℓ : Loc nD τ sig) → Buf (Elt Ideal) ℓ)

/-- An entry of a device's rows of the product is the sum over the contracted positions. -/
theorem prodAt_sum (c : Dev nD) (a : Fin 64) (n : Fin 2048) :
    prodAt m ρ c a n = ∑ k : Fin 2048, (show EReal from xst m ρ c (ix2 (n0 := 64) (n1 := 2048) a k)) * (show EReal from wst m ρ c (ix2 (n0 := 2048) (n1 := 2048) k n)) := by
  unfold prodAt prodV k0_pay2 k0_pay1
  rw [shapeCast_self, shapeCast_self]
  refine (Ideal.matmul_plain_apply (M := 64) (K := 2048) (N := 512) none _ _ _ a _).trans ?_
  rw [show constant (F := Ideal) S64x512 .f32 0x00000000#32 _ = (0 : EReal) from Ideal.ofBits_zero_f32, zero_add]
  refine Finset.sum_congr rfl fun k _ => ?_
  refine congrArg (fun y : EReal => _ * y) (congrArg (fun q : Fin 2048 => wst m ρ c (ix2 (n0 := 2048) (n1 := 2048) k q)) (Fin.ext ?_))
  exact Nat.div_add_mod n.val 512

/-- The reference's product, entry by entry. -/
theorem dot_sum (X W : FVec Ideal S2048x2048 .f32) (r n : Fin 2048) :
    Host.dotGeneral Cert.ReferenceIdeal.dot_S2048x2048_S2048x2048_S2048x2048_1_0_0_1_n_n none X W (ix2 r n)
      = ∑ k : Fin 2048, (X (ix2 r k) : EReal) * (W (ix2 k n) : EReal) := by
  rw [← matmul_zero_eq_dotGeneral]
  refine (Ideal.matmul_plain_apply (M := 2048) (K := 2048) (N := 2048) none X W _ r n).trans ?_
  rw [show constant (F := Ideal) S2048x2048 .f32 0x00000000#32 _ = (0 : EReal) from Ideal.ofBits_zero_f32, zero_add]

/-- Where every device holds its rows of `X` and the whole of `W`, device `d`'s result is its columns of the product. -/
theorem outV_block (X W : FVec Ideal S2048x2048 .f32) (h : ∀ c : Dev nD,
      m ((c : Thread nD τ).loc main_arg0) = Layout.block ⟨2, ![64, 2048]⟩ ⟨2, ![2048, 2048]⟩ 0 32 c X ∧ m ((c : Thread nD τ).loc main_arg1) = W) (d : Dev nD) :
    outV m ρ d = Layout.block ⟨2, ![2048, 64]⟩ ⟨2, ![2048, 2048]⟩ 1 32 d
      (Host.dotGeneral Cert.ReferenceIdeal.dot_S2048x2048_S2048x2048_S2048x2048_1_0_0_1_n_n none X W) := by
  funext i
  have h0 : (i 0).val < 2048 := (i 0).isLt
  have h1 : (i 1).val < 64 := (i 1).isLt
  have hd : d.val < 32 := d.isLt
  unfold outV
  rw [prodAt_sum, Layout.block_apply, xst_eq, wst_eq, (h _).1, (h _).2]
  have ho : ∀ ht : Layout.Tiles ⟨2, ![2048, 64]⟩ ⟨2, ![2048, 2048]⟩ 1 32,
      ht.idx d i = ix2 (n0 := 2048) (n1 := 2048) ⟨(i 0).val, h0⟩ ⟨64 * d.val + (i 1).val, by omega⟩ := fun ht => by
    funext a; apply Fin.ext
    match a with
    | ⟨0, _⟩ => rfl
    | ⟨1, _⟩ => show d.val * 64 + (i 1).val = 64 * d.val + (i 1).val; omega
  rw [ho, dot_sum]
  refine Finset.sum_congr (M := EReal) rfl fun k _ => congrArg (fun y : EReal => y * _) ?_
  rw [Layout.block_apply]
  refine congrArg X ?_
  funext a; apply Fin.ext
  match a with
  | ⟨0, _⟩ => show (i 0).val / 64 * 64 + (i 0).val % 64 = (i 0).val; omega
  | ⟨1, _⟩ => rfl

end AtIdeal

end Cert.AllToAll

end
-- ==== Proof.lean ====
/-
# The claims

The kernel multiplies a device's 64 rows of `x` by the whole of `w` and sends each device the 64 columns that it
keeps. Proved here: the kernel and the reference run and keep their arguments, every semaphore ending at zero, and over
the extended reals every device's result is its block of columns of `x @ w`. The run itself is `AllToAll.run_main`
(Proof/Launch.lean), proved once for any reading of the floats; what the result holds is Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- What the run of the kernel leaves of the argument arrays, as the claims say it. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) (r) (h : Cert.AllToAll.QC m ρ r) (c : Dev Cert.KernelIdeal.nD) :
    r.2.mem ((c.tc : Thread Cert.KernelIdeal.nD Cert.KernelIdeal.τ).loc Cert.KernelIdeal.main_arg0) = m (c.tc.loc Cert.KernelIdeal.main_arg0)
      ∧ r.2.mem ((c.tc : Thread Cert.KernelIdeal.nD Cert.KernelIdeal.τ).loc Cert.KernelIdeal.main_arg1) = m (c.tc.loc Cert.KernelIdeal.main_arg1) :=
  ⟨(h c (0 : Fin 3)).trans (Cert.AllToAll.final_x m ρ c), (h c (1 : Fin 3)).trans (Cert.AllToAll.final_w m ρ c)⟩

/-- The idealized kernel runs, keeps its arguments and ends with every counter at zero. -/
theorem frame_kernelIdeal : Cert.quiescent_KernelIdeal := fun m ρ _ =>
  (θ_run Cert.KernelIdeal.defs _ _).mono (fun r h => ⟨kept m ρ r h.1, h.2⟩) (Cert.AllToAll.run_main (F := Ideal) m ρ)

/-- The kernel as printed and the idealized kernel have the same bodies: case by case over their one label, -/
theorem bodies_same : Cert.Kernel.defs₀ (F := Bits) = Cert.KernelIdeal.defs₀ (F := Bits) := by
  unfold Cert.Kernel.defs₀ Cert.KernelIdeal.defs₀
  congr 1
  funext ℓ a
  match ℓ, a with
  | 0, (t, s) => rfl
  | ⟨n + 1, h⟩, _ => exact absurd h (Nat.not_lt.2 (Nat.le_add_left _ _))
/-- and so the same table. -/
theorem defs_same : Cert.Kernel.defs (F := Bits) = Cert.KernelIdeal.defs (F := Bits) := congrArg (Pipeline.defs _) bodies_same

/-- The kernel as printed does the same: its text is the idealized kernel's, read with the machine's floats. -/
theorem frame_kernel : Cert.quiescent_Kernel := fun m ρ _ => by
  rw [defs_same]
  exact (θ_run Cert.KernelIdeal.defs _ _).mono (fun r h => ⟨kept m ρ r h.1, h.2⟩) (Cert.AllToAll.run_main (F := Bits) m ρ)

/-- The reference is one host product and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of 64 columns of the reference's product. -/
theorem algebraic : Cert.algebraic_KernelIdeal_ReferenceIdeal := fun m ρ m' ρ' _ held =>
  ⟨_, (θ_run Cert.KernelIdeal.defs _ _).mono
      (fun r h c => ⟨((h.1 c (2 : Fin 3)).trans (Cert.AllToAll.final_out m ρ c)).trans (Cert.AllToAll.outV_block ρ m _ _ held c), kept m ρ r h.1 c⟩)
      (Cert.AllToAll.run_main (F := Ideal) m ρ),
    (θ_run Cert.ReferenceIdeal.defs _ _).mono (fun _ h => h 0) (Cert.ReferenceIdeal.Value.run (F := Ideal) m' ρ')⟩

/-- The claims together, after the facts that the programs state. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
